-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_graph [hPre_finite_graph : Cert.Pre_finite_graph.Facts] (m : (ℓ : Loc Cert.KernelIdeal.nD Cert.KernelIdeal.τ Cert.KernelIdeal.sig) → Buf (Elt Ideal) ℓ) : Prop :=
  ∀ c : Dev Cert.KernelIdeal.nD,
    (Cert.Pre_finite_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_graph [hPre_finite_graph : Cert.Pre_finite_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_graph [hKernelIdeal : Cert.KernelIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_graph [hReferenceIdeal : Cert.ReferenceIdeal.Facts] [hPre_finite_graph : Cert.Pre_finite_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_graph [hKernelIdeal : Cert.KernelIdeal.Facts] [hReferenceIdeal : Cert.ReferenceIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_2)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_graph : Cert.Pre_finite_graph.Facts),
    quiescent_Kernel (hKernel := hKernel)
    ∧ quiescent_KernelIdeal (hKernelIdeal := hKernelIdeal)
    ∧ quiescent_KernelIdeal_pre_finite_graph (hKernelIdeal := hKernelIdeal) (hPre_finite_graph := hPre_finite_graph)
    ∧ quiescent_ReferenceIdeal (hReferenceIdeal := hReferenceIdeal)
    ∧ quiescent_ReferenceIdeal_pre_finite_graph (hReferenceIdeal := hReferenceIdeal) (hPre_finite_graph := hPre_finite_graph)
    ∧ preserves_Kernel_KernelIdeal
    ∧ algebraic_KernelIdeal_ReferenceIdeal_pre_finite_graph (hKernelIdeal := hKernelIdeal) (hReferenceIdeal := hReferenceIdeal) (hPre_finite_graph := hPre_finite_graph)
-- ==== Pre_finite_graph.lean ====
abbrev S2048x512 : Shape := ⟨2, ![2048, 512]⟩
abbrev S2048x2048 : Shape := ⟨2, ![2048, 2048]⟩
abbrev S512x2048 : Shape := ⟨2, ![512, 2048]⟩
abbrev S8x256 : Shape := ⟨2, ![8, 256]⟩
abbrev S2048x256 : Shape := ⟨2, ![2048, 256]⟩
abbrev S256 : Shape := ⟨1, ![256]⟩
abbrev S_ : Shape := ⟨0, ![]⟩
abbrev S2048 : Shape := ⟨1, ![2048]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  reducesTo_S2048x2048_S2048_d1 : S2048x2048.ReducesTo [1] S2048
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S8x256 : S_.BroadcastsInDim S8x256 (![] : Fin 0 → Fin S8x256.rank)
  reducesTo_S8x256_S_d0_1 : S8x256.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg6 : FVec F S256 .f32) (main_arg7 : FVec F S256 .f32) (main_v30 : IVec S_ 1) (main_v31 : FVec F S2048x256 .f32) (main_v32 : FVec F S2048x256 .f32) : IVec S_ 1 :=
  let main_v33 : IVec S2048x256 1 := cmpf .olt main_v31 main_v32
  let main_c_13 : IVec S_ 1 := constantI S_ 1 1#1
  let main_v34 : IVec S_ 1 := (fun x v => Host.reduce IntOp.andi x v reducesTo_S2048x256_S_d0_1 h_S_) main_v33 main_c_13
  let main_v35 : IVec S_ 1 := andi main_v30 main_v34
  let main_v36 : FVec F S256 .f32 := Host.absf main_arg6
  let main_cst_14 : FVec F S_ .f32 := constant S_ .f32 0x7F800000#32
  let main_v37 : FVec F S256 .f32 := broadcastInDim S256 ![] bcast_S_S256 main_cst_14
  let main_v38 : IVec S256 1 := cmpf .olt main_v36 main_v37
  let main_c_15 : IVec S_ 1 := constantI S_ 1 1#1
  let main_v39 : IVec S_ 1 := (fun x v => Host.reduce IntOp.andi x v reducesTo_S256_S_d0 h_S_) main_v38 main_c_15
  let main_v40 : IVec S_ 1 := andi main_v35 main_v39
  let main_v41 : FVec F S256 .f32 := Host.absf main_arg7
  let main_cst_16 : FVec F S_ .f32 := constant S_ .f32 0x7F800000#32
  let main_v42 : FVec F S256 .f32 := broadcastInDim S256 ![] bcast_S_S256 main_cst_16
  let main_v43 : IVec S256 1 := cmpf .olt main_v41 main_v42
  let main_c_17 : IVec S_ 1 := constantI S_ 1 1#1
  let main_v44 : IVec S_ 1 := (fun x v => Host.reduce IntOp.andi x v reducesTo_S256_S_d0 h_S_) main_v43 main_c_17
  let main_v45 : IVec S_ 1 := andi main_v40 main_v44
  main_v45

def fn_part1 {F : FTy → Type} [FloatOps F] (main_arg2 : FVec F S512x2048 .f32) (main_arg3 : FVec F S8x256 .f32) (main_arg4 : FVec F S8x256 .f32) (main_arg5 : FVec F S2048x256 .f32) (main_arg6 : FVec F S256 .f32) (main_arg7 : FVec F S256 .f32) (main_v15 : IVec S_ 1) : IVec S_ 1 :=
  let main_v16 : FVec F S512x2048 .f32 := Host.absf main_arg2
  let main_cst_6 : FVec F S_ .f32 := constant S_ .f32 0x7F800000#32
  let main_v17 : FVec F S512x2048 .f32 := broadcastInDim S512x2048 ![] bcast_S_S512x2048 main_cst_6
  let main_v18 : IVec S512x2048 1 := cmpf .olt main_v16 main_v17
  let main_c_7 : IVec S_ 1 := constantI S_ 1 1#1
  let main_v19 : IVec S_ 1 := (fun x v => Host.reduce IntOp.andi x v reducesTo_S512x2048_S_d0_1 h_S_) main_v18 main_c_7
  let main_v20 : IVec S_ 1 := andi main_v15 main_v19
  let main_v21 : FVec F S8x256 .f32 := Host.absf main_arg3
  let main_cst_8 : FVec F S_ .f32 := constant S_ .f32 0x7F800000#32
  let main_v22 : FVec F S8x256 .f32 := broadcastInDim S8x256 ![] bcast_S_S8x256 main_cst_8
  let main_v23 : IVec S8x256 1 := cmpf .olt main_v21 main_v22
  let main_c_9 : IVec S_ 1 := constantI S_ 1 1#1
  let main_v24 : IVec S_ 1 := (fun x v => Host.reduce IntOp.andi x v reducesTo_S8x256_S_d0_1 h_S_) main_v23 main_c_9
  let main_v25 : IVec S_ 1 := andi main_v20 main_v24
  let main_v26 : FVec F S8x256 .f32 := Host.absf main_arg4
  let main_cst_10 : FVec F S_ .f32 := constant S_ .f32 0x7F800000#32
  let main_v27 : FVec F S8x256 .f32 := broadcastInDim S8x256 ![] bcast_S_S8x256 main_cst_10
  let main_v28 : IVec S8x256 1 := cmpf .olt main_v26 main_v27
  let main_c_11 : IVec S_ 1 := constantI S_ 1 1#1
  let main_v29 : IVec S_ 1 := (fun x v => Host.reduce IntOp.andi x v reducesTo_S8x256_S_d0_1 h_S_) main_v28 main_c_11
  let main_v30 : IVec S_ 1 := andi main_v25 main_v29
  let main_v31 : FVec F S2048x256 .f32 := Host.absf main_arg5
  let main_cst_12 : FVec F S_ .f32 := constant S_ .f32 0x7F800000#32
  let main_v32 : FVec F S2048x256 .f32 := broadcastInDim S2048x256 ![] bcast_S_S2048x256 main_cst_12
  fn_part2 (F := F) main_arg6 main_arg7 main_v30 main_v31 main_v32

def fn {F : FTy → Type} [FloatOps F] (main_arg0 : FVec F S2048x512 .f32) (main_arg1 : FVec F S2048x2048 .f32) (main_arg2 : FVec F S512x2048 .f32) (main_arg3 : FVec F S8x256 .f32) (main_arg4 : FVec F S8x256 .f32) (main_arg5 : FVec F S2048x256 .f32) (main_arg6 : FVec F S256 .f32) (main_arg7 : FVec F S256 .f32) : IVec S_ 1 :=
  let main_cst : FVec F S_ .f32 := constant S_ .f32 0x00000000#32
  let main_v0 : FVec F S2048x2048 .f32 := broadcastInDim S2048x2048 ![] bcast_S_S2048x2048 main_cst
  let main_v1 : IVec S2048x2048 1 := cmpf .oeq main_arg1 main_v0
  let main_cst_0 : FVec F S_ .f32 := constant S_ .f32 0x3F800000#32
  let main_v2 : FVec F S2048x2048 .f32 := broadcastInDim S2048x2048 ![] bcast_S_S2048x2048 main_cst_0
  let main_v3 : IVec S2048x2048 1 := cmpf .oeq main_arg1 main_v2
  let main_v4 : IVec S2048x2048 1 := ori main_v1 main_v3
  let main_c : IVec S_ 1 := constantI S_ 1 1#1
  let main_v5 : IVec S_ 1 := (fun x v => Host.reduce IntOp.andi x v reducesTo_S2048x2048_S_d0_1 h_S_) main_v4 main_c
  let main_cst_1 : FVec F S_ .f32 := constant S_ .f32 0x3F800000#32
  let main_v6 : FVec F S2048x2048 .f32 := broadcastInDim S2048x2048 ![] bcast_S_S2048x2048 main_cst_1
  let main_v7 : IVec S2048x2048 1 := cmpf .oeq main_arg1 main_v6
  let main_c_2 : IVec S_ 1 := constantI S_ 1 0#1
  let main_v8 : IVec S2048 1 := (fun x v => Host.reduce IntOp.ori x v reducesTo_S2048x2048_S2048_d1 h_S_) main_v7 main_c_2
  let main_c_3 : IVec S_ 1 := constantI S_ 1 1#1
  let main_v9 : IVec S_ 1 := (fun x v => Host.reduce IntOp.andi x v reducesTo_S2048_S_d0 h_S_) main_v8 main_c_3
  let main_v10 : IVec S_ 1 := andi main_v5 main_v9
  let main_v11 : FVec F S2048x512 .f32 := Host.absf main_arg0
  let main_cst_4 : FVec F S_ .f32 := constant S_ .f32 0x7F800000#32
  let main_v12 : FVec F S2048x512 .f32 := broadcastInDim S2048x512 ![] bcast_S_S2048x512 main_cst_4
  let main_v13 : IVec S2048x512 1 := cmpf .olt main_v11 main_v12
  let main_c_5 : IVec S_ 1 := constantI S_ 1 1#1
  let main_v14 : IVec S_ 1 := (fun x v => Host.reduce IntOp.andi x v reducesTo_S2048x512_S_d0_1 h_S_) main_v13 main_c_5
  let main_v15 : IVec S_ 1 := andi main_v10 main_v14
  fn_part1 (F := F) main_arg2 main_arg3 main_arg4 main_arg5 main_arg6 main_arg7 main_v15
-- ==== Kernel.lean ====
abbrev S2048x512 : Shape := ⟨2, ![2048, 512]⟩
abbrev S2048x2048 : Shape := ⟨2, ![2048, 2048]⟩
abbrev S512x2048 : Shape := ⟨2, ![512, 2048]⟩
abbrev S8x256 : Shape := ⟨2, ![8, 256]⟩
abbrev S2048x256 : Shape := ⟨2, ![2048, 256]⟩
abbrev S256 : Shape := ⟨1, ![256]⟩
abbrev S8x2048x256 : Shape := ⟨3, ![8, 2048, 256]⟩
abbrev S16x2048 : Shape := ⟨2, ![16, 2048]⟩
abbrev S512x512 : Shape := ⟨2, ![512, 512]⟩
abbrev S8x512x256 : Shape := ⟨3, ![8, 512, 256]⟩
abbrev S16x512 : Shape := ⟨2, ![16, 512]⟩
abbrev S512x256 : Shape := ⟨2, ![512, 256]⟩
abbrev S1x512x256 : Shape := ⟨3, ![1, 512, 256]⟩
abbrev S1x256 : Shape := ⟨2, ![1, 256]⟩
abbrev S256x1 : Shape := ⟨2, ![256, 1]⟩
abbrev S256x2 : Shape := ⟨2, ![256, 2]⟩
abbrev S512x2 : Shape := ⟨2, ![512, 2]⟩
abbrev S512x1 : Shape := ⟨2, ![512, 1]⟩
abbrev S512 : Shape := ⟨1, ![512]⟩
abbrev S1x512 : Shape := ⟨2, ![1, 512]⟩
abbrev S8x2048x2048 : Shape := ⟨3, ![8, 2048, 2048]⟩
abbrev S1x2048x256 : Shape := ⟨3, ![1, 2048, 256]⟩
abbrev S1x512x2048 : Shape := ⟨3, ![1, 512, 2048]⟩
abbrev S2x2048 : Shape := ⟨2, ![2, 2048]⟩
abbrev S1x512x512 : Shape := ⟨3, ![1, 512, 512]⟩
abbrev S256x256 : Shape := ⟨2, ![256, 256]⟩
abbrev S2048x2 : Shape := ⟨2, ![2048, 2]⟩

abbrev nBuf : Space → Nat
  | .hbm => 15
  | .vmem => 25
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S8x256, .f32⟩
  | .hbm, ⟨4, _⟩ => ⟨S8x256, .f32⟩
  | .hbm, ⟨5, _⟩ => ⟨S2048x256, .f32⟩
  | .hbm, ⟨6, _⟩ => ⟨S256, .f32⟩
  | .hbm, ⟨7, _⟩ => ⟨S256, .f32⟩
  | .hbm, ⟨8, _⟩ => ⟨S8x2048x256, .bf16⟩
  | .hbm, ⟨9, _⟩ => ⟨S16x2048, .f32⟩
  | .hbm, ⟨10, _⟩ => ⟨S1x256, .f32⟩
  | .hbm, ⟨11, _⟩ => ⟨S1x256, .f32⟩
  | .hbm, ⟨12, _⟩ => ⟨S8x2048x2048, .f32⟩
  | .hbm, ⟨13, _⟩ => ⟨S2048x2048, .f32⟩
  | .hbm, ⟨14, _⟩ => ⟨S2048x256, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S8x256, .f32⟩
  | .local _ .vmem, ⟨4, _⟩ => ⟨S8x256, .f32⟩
  | .local _ .vmem, ⟨5, _⟩ => ⟨S8x512x256, .bf16⟩
  | .local _ .vmem, ⟨6, _⟩ => ⟨S8x512x256, .bf16⟩
  | .local _ .vmem, ⟨7, _⟩ => ⟨S16x512, .f32⟩
  | .local _ .vmem, ⟨8, _⟩ => ⟨S16x512, .f32⟩
  | .local _ .vmem, ⟨9, _⟩ => ⟨S2048x2048, .f32⟩
  | .local _ .vmem, ⟨10, _⟩ => ⟨S1x2048x256, .bf16⟩
  | .local _ .vmem, ⟨11, _⟩ => ⟨S1x2048x256, .bf16⟩
  | .local _ .vmem, ⟨12, _⟩ => ⟨S16x2048, .f32⟩
  | .local _ .vmem, ⟨13, _⟩ => ⟨S2048x256, .f32⟩
  | .local _ .vmem, ⟨14, _⟩ => ⟨S1x256, .f32⟩
  | .local _ .vmem, ⟨15, _⟩ => ⟨S1x256, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .f32⟩
  | .local _ .vmem, ⟨19, _⟩ => ⟨S512x2048, .f32⟩
  | .local _ .vmem, ⟨20, _⟩ => ⟨S512x256, .f32⟩
  | .local _ .vmem, ⟨21, _⟩ => ⟨S512x256, .f32⟩
  | .local _ .vmem, ⟨22, _⟩ => ⟨S2048x256, .f32⟩
  | .local _ .vmem, ⟨23, _⟩ => ⟨S2x2048, .f32⟩
  | .local _ .vmem, ⟨24, _⟩ => ⟨S2048x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![9, 4], ![false, false]⟩

def k1_cond1 (i : grid1.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let v7 : Index := Scalar.indexCast arg0
  let arg1 : BitVec 32 := BitVec.ofNat 32 (i 1).val
  let c512_i32 : BitVec 32 := 512#32
  let v6 : BitVec 32 := Scalar.muli arg1 c512_i32
  let v8 : Index := Scalar.indexCast v6
  ![v7.toNat, v8.toNat]
def k1_off2 (i : grid1.Coords) : Fin 2 → Nat :=
  let c8_i32_3 : BitVec 32 := 8#32
  let arg0 : BitVec 32 := BitVec.ofNat 32 (i 0).val
  let v14 : BitVec 32 := Scalar.addi c8_i32_3 arg0
  let v15 : Index := Scalar.indexCast v14
  let c0 : Index := 0#32
  ![v15.toNat, 0]
def k1_off3 (i : grid1.Coords) : Fin 2 → Nat :=
  let arg1 : BitVec 32 := BitVec.ofNat 32 (i 1).val
  let c512_i32_5 : BitVec 32 := 512#32
  let v26 : BitVec 32 := Scalar.muli arg1 c512_i32_5
  let v27 : Index := Scalar.indexCast v26
  let c0_6 : Index := 0#32
  ![v27.toNat, 0]
def k1_off4 (i : grid1.Coords) : Fin 2 → Nat :=
  let c8_i32_15 : BitVec 32 := 8#32
  let arg0 : BitVec 32 := BitVec.ofNat 32 (i 0).val
  let v41 : BitVec 32 := Scalar.addi c8_i32_15 arg0
  let v42 : Index := Scalar.indexCast v41
  let c512 : Index := 512#32
  ![v42.toNat, 512]
def k1_off5 (i : grid1.Coords) : Fin 2 → Nat :=
  let arg1 : BitVec 32 := BitVec.ofNat 32 (i 1).val
  let c512_i32_17 : BitVec 32 := 512#32
  let v53 : BitVec 32 := Scalar.muli arg1 c512_i32_17
  let v54 : Index := Scalar.indexCast v53
  let c512_18 : Index := 512#32
  ![v54.toNat, 512]
def k1_off6 (i : grid1.Coords) : Fin 2 → Nat :=
  let c8_i32_27 : BitVec 32 := 8#32
  let arg0 : BitVec 32 := BitVec.ofNat 32 (i 0).val
  let v68 : BitVec 32 := Scalar.addi c8_i32_27 arg0
  let v69 : Index := Scalar.indexCast v68
  let c1024 : Index := 1024#32
  ![v69.toNat, 1024]
def k1_off7 (i : grid1.Coords) : Fin 2 → Nat :=
  let arg1 : BitVec 32 := BitVec.ofNat 32 (i 1).val
  let c512_i32_29 : BitVec 32 := 512#32
  let v80 : BitVec 32 := Scalar.muli arg1 c512_i32_29
  let v81 : Index := Scalar.indexCast v80
  let c1024_30 : Index := 1024#32
  ![v81.toNat, 1024]
def k1_off8 (i : grid1.Coords) : Fin 2 → Nat :=
  let c8_i32_39 : BitVec 32 := 8#32
  let arg0 : BitVec 32 := BitVec.ofNat 32 (i 0).val
  let v95 : BitVec 32 := Scalar.addi c8_i32_39 arg0
  let v96 : Index := Scalar.indexCast v95
  let c1536 : Index := 1536#32
  ![v96.toNat, 1536]
def k1_off9 (i : grid1.Coords) : Fin 2 → Nat :=
  let arg1 : BitVec 32 := BitVec.ofNat 32 (i 1).val
  let c512_i32_41 : BitVec 32 := 512#32
  let v107 : BitVec 32 := Scalar.muli arg1 c512_i32_41
  let v108 : Index := Scalar.indexCast v107
  let c1536_42 : Index := 1536#32
  ![v108.toNat, 1536]
def k1_off10 (i : grid1.Coords) : Fin 2 → Nat :=
  let arg0 : BitVec 32 := BitVec.ofNat 32 (i 0).val
  let c256_i32 : BitVec 32 := 256#32
  let v141 : BitVec 32 := Scalar.muli arg0 c256_i32
  let v142 : Index := Scalar.indexCast v141
  let c0_61 : Index := 0#32
  ![v142.toNat, 0]
def k1_cond2 (i : grid1.Coords) : BitVec 1 :=
  let arg0 : BitVec 32 := BitVec.ofNat 32 (i 0).val
  let c0_i32_63 : BitVec 32 := 0#32
  let v147 : BitVec 1 := Scalar.cmpi .eq arg0 c0_i32_63
  let v148 : BitVec 32 := Scalar.extui v147
  let c0_i32_64 : BitVec 32 := 0#32
  let v149 : BitVec 1 := Scalar.cmpi .ne v148 c0_i32_64
  v149

def k1_off11 (i : grid1.Coords) : Fin 2 → Nat :=
  let arg1 : BitVec 32 := BitVec.ofNat 32 (i 1).val
  let c512_i32_67 : BitVec 32 := 512#32
  let v153 : BitVec 32 := Scalar.muli arg1 c512_i32_67
  let v154 : Index := Scalar.indexCast v153
  let c0_68 : Index := 0#32
  ![v154.toNat, 0]
def k1_cond3 (i : grid1.Coords) : BitVec 1 :=
  let arg0 : BitVec 32 := BitVec.ofNat 32 (i 0).val
  let c0_i32_65 : BitVec 32 := 0#32
  let v150 : BitVec 1 := Scalar.cmpi .sgt arg0 c0_i32_65
  let v151 : BitVec 32 := Scalar.extui v150
  let c0_i32_66 : BitVec 32 := 0#32
  let v152 : BitVec 1 := Scalar.cmpi .ne v151 c0_i32_66
  v152

def k1_off12 (i : grid1.Coords) : Fin 2 → Nat :=
  let arg1 : BitVec 32 := BitVec.ofNat 32 (i 1).val
  let c512_i32_67 : BitVec 32 := 512#32
  let v153 : BitVec 32 := Scalar.muli arg1 c512_i32_67
  let v154 : Index := Scalar.indexCast v153
  let c0_68 : Index := 0#32
  ![v154.toNat, 0]
def k1_cond4 (i : grid1.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def k1_off13 (i : grid1.Coords) : Fin 2 → Nat :=
  let c0 : Index := 0#32
  let arg1 : BitVec 32 := BitVec.ofNat 32 (i 1).val
  let c512_i32 : BitVec 32 := 512#32
  let v9 : BitVec 32 := Scalar.muli arg1 c512_i32
  let v10 : Index := Scalar.indexCast v9
  ![0, v10.toNat]
def k1_off14 (i : grid1.Coords) : Fin 2 → Nat :=
  let arg1 : BitVec 32 := BitVec.ofNat 32 (i 1).val
  let c512_i32_7 : BitVec 32 := 512#32
  let v26 : BitVec 32 := Scalar.muli arg1 c512_i32_7
  let v27 : Index := Scalar.indexCast v26
  let c0_8 : Index := 0#32
  ![v27.toNat, 0]
def k1_off15 (i : grid1.Coords) : Fin 2 → Nat :=
  let arg1 : BitVec 32 := BitVec.ofNat 32 (i 1).val
  let c512_i32_17 : BitVec 32 := 512#32
  let v48 : BitVec 32 := Scalar.muli arg1 c512_i32_17
  let v49 : Index := Scalar.indexCast v48
  let c512_18 : Index := 512#32
  ![v49.toNat, 512]
def k1_off16 (i : grid1.Coords) : Fin 2 → Nat :=
  let arg1 : BitVec 32 := BitVec.ofNat 32 (i 1).val
  let c512_i32_27 : BitVec 32 := 512#32
  let v70 : BitVec 32 := Scalar.muli arg1 c512_i32_27
  let v71 : Index := Scalar.indexCast v70
  let c1024_28 : Index := 1024#32
  ![v71.toNat, 1024]
def k1_off17 (i : grid1.Coords) : Fin 2 → Nat :=
  let arg1 : BitVec 32 := BitVec.ofNat 32 (i 1).val
  let c512_i32_37 : BitVec 32 := 512#32
  let v92 : BitVec 32 := Scalar.muli arg1 c512_i32_37
  let v93 : Index := Scalar.indexCast v92
  let c1536_38 : Index := 1536#32
  ![v93.toNat, 1536]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c3_i32 : BitVec 32 := 3#32
  let v2 : BitVec 32 := Scalar.select v1 arg1 c3_i32
  let c0_i32 : BitVec 32 := 0#32
  let c0_i32_0 : BitVec 32 := 0#32
  ![v0.toNat, v2.toNat, c0_i32.toNat]

def cc1_transform_7 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S16x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2048x512 : Shape := ⟨2, ![2048, 512]⟩
abbrev S2048x2048 : Shape := ⟨2, ![2048, 2048]⟩
abbrev S512x2048 : Shape := ⟨2, ![512, 2048]⟩
abbrev S8x256 : Shape := ⟨2, ![8, 256]⟩
abbrev S2048x256 : Shape := ⟨2, ![2048, 256]⟩
abbrev S256 : Shape := ⟨1, ![256]⟩
abbrev S2048x8x256 : Shape := ⟨3, ![2048, 8, 256]⟩
abbrev S8x2048x256 : Shape := ⟨3, ![8, 2048, 256]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩
abbrev S1x2048x2048 : Shape := ⟨3, ![1, 2048, 2048]⟩
abbrev S1x256 : Shape := ⟨2, ![1, 256]⟩
abbrev S2048x1x256 : Shape := ⟨3, ![2048, 1, 256]⟩
abbrev S1x2048x256 : Shape := ⟨3, ![1, 2048, 256]⟩
abbrev S1x2048 : Shape := ⟨2, ![1, 2048]⟩
abbrev S1x2048x1 : Shape := ⟨3, ![1, 2048, 1]⟩
abbrev S1x1x2048 : Shape := ⟨3, ![1, 1, 2048]⟩

abbrev nBuf : Space → Nat
  | .hbm => 114
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S8x256, .f32⟩
  | .hbm, ⟨4, _⟩ => ⟨S8x256, .f32⟩
  | .hbm, ⟨5, _⟩ => ⟨S2048x256, .f32⟩
  | .hbm, ⟨6, _⟩ => ⟨S256, .f32⟩
  | .hbm, ⟨7, _⟩ => ⟨S256, .f32⟩
  | .hbm, ⟨8, _⟩ => ⟨S2048x2048, .f32⟩
  | .hbm, ⟨9, _⟩ => ⟨S2048x8x256, .f32⟩
  | .hbm, ⟨10, _⟩ => ⟨S8x2048x256, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S_, .f32⟩
  | .hbm, ⟨20, _⟩ => ⟨S8x2048x2048, .f32⟩
  | .hbm, ⟨21, _⟩ => ⟨S8x2048x2048, .i1⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S2048x2048, .f32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S8x2048x2048, .i1⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x256, .f32⟩
  | .hbm, ⟨49, _⟩ => ⟨S2048x8x256, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S2048x2048, .i1⟩
  | .hbm, ⟨54, _⟩ => ⟨S_, .f32⟩
  | .hbm, ⟨55, _⟩ => ⟨S2048x2048, .f32⟩
  | .hbm, ⟨56, _⟩ => ⟨S2048x2048, .i1⟩
  | .hbm, ⟨57, _⟩ => ⟨S_, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S1x256, .f32⟩
  | .hbm, ⟨67, _⟩ => ⟨S1x256, .f32⟩
  | .hbm, ⟨68, _⟩ => ⟨S2048x256, .f32⟩
  | .hbm, ⟨69, _⟩ => ⟨S2048x1x256, .f32⟩
  | .hbm, ⟨70, _⟩ => ⟨S1x2048x256, .f32⟩
  | .hbm, ⟨71, _⟩ => ⟨S1x2048, .f32⟩
  | .hbm, ⟨72, _⟩ => ⟨S1x2048, .f32⟩
  | .hbm, ⟨73, _⟩ => ⟨S1x2048x1, .f32⟩
  | .hbm, ⟨74, _⟩ => ⟨S1x1x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S_, .f32⟩
  | .hbm, ⟨79, _⟩ => ⟨S_, .f32⟩
  | .hbm, ⟨80, _⟩ => ⟨S1x2048x2048, .f32⟩
  | .hbm, ⟨81, _⟩ => ⟨S1x2048x2048, .i1⟩
  | .hbm, ⟨82, _⟩ => ⟨S_, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S_, .f32⟩
  | .hbm, ⟨87, _⟩ => ⟨S2048x2048, .f32⟩
  | .hbm, ⟨88, _⟩ => ⟨S2048x2048, .i1⟩
  | .hbm, ⟨89, _⟩ => ⟨S1x2048x2048, .i1⟩
  | .hbm, ⟨90, _⟩ => ⟨S_, .f32⟩
  | .hbm, ⟨91, _⟩ => ⟨S1x2048x2048, .f32⟩
  | .hbm, ⟨92, _⟩ => ⟨S1x2048x2048, .f32⟩
  | .hbm, ⟨93, _⟩ => ⟨S_, .f32⟩
  | .hbm, ⟨94, _⟩ => ⟨S1x2048, .f32⟩
  | .hbm, ⟨95, _⟩ => ⟨S_, .f32⟩
  | .hbm, ⟨96, _⟩ => ⟨S1x2048, .f32⟩
  | .hbm, ⟨97, _⟩ => ⟨S1x2048, .f32⟩
  | .hbm, ⟨98, _⟩ => ⟨S1x2048x1, .f32⟩
  | .hbm, ⟨99, _⟩ => ⟨S1x2048x2048, .f32⟩
  | .hbm, ⟨100, _⟩ => ⟨S1x2048x2048, .f32⟩
  | .hbm, ⟨101, _⟩ => ⟨S1x2048x2048, .f32⟩
  | .hbm, ⟨102, _⟩ => ⟨S_, .f32⟩
  | .hbm, ⟨103, _⟩ => ⟨S1x2048, .f32⟩
  | .hbm, ⟨104, _⟩ => ⟨S1x2048x1, .f32⟩
  | .hbm, ⟨105, _⟩ => ⟨S1x2048x2048, .f32⟩
  | .hbm, ⟨106, _⟩ => ⟨S1x2048x2048, .f32⟩
  | .hbm, ⟨107, _⟩ => ⟨S1x2048x256, .f32⟩
  | .hbm, ⟨108, _⟩ => ⟨S_, .f32⟩
  | .hbm, ⟨109, _⟩ => ⟨S2048x256, .f32⟩
  | .hbm, ⟨110, _⟩ => ⟨S_, .f32⟩
  | .hbm, ⟨111, _⟩ => ⟨S2048x256, .f32⟩
  | .hbm, ⟨112, _⟩ => ⟨S2048x256, .f32⟩
  | .hbm, ⟨113, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_cst_0 : Ref sig .tc := ⟨.hbm, 54, rfl⟩
abbrev main_call2_v2 : Ref sig .tc := ⟨.hbm, 55, rfl⟩
abbrev main_call2_v3 : Ref sig .tc := ⟨.hbm, 56, rfl⟩
abbrev main_call2_cst_1 : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_v4 : Ref sig .tc := ⟨.hbm, 60, rfl⟩
abbrev main_call2_v5 : Ref sig .tc := ⟨.hbm, 61, rfl⟩
abbrev main_call2_cst_2 : Ref sig .tc := ⟨.hbm, 62, rfl⟩
abbrev main_call2_v6 : Ref sig .tc := ⟨.hbm, 63, rfl⟩
abbrev main_call2_v7 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_5 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v42 : Ref sig .tc := ⟨.hbm, 85, rfl⟩
abbrev main_cst_6 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_7 : Ref sig .tc := ⟨.hbm, 90, rfl⟩
abbrev main_call4_v0 : Ref sig .tc := ⟨.hbm, 91, rfl⟩
abbrev main_v46 : Ref sig .tc := ⟨.hbm, 92, rfl⟩
abbrev main_cst_8 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_10 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_11 : Ref sig .tc := ⟨.hbm, 108, rfl⟩
abbrev main_v59 : Ref sig .tc := ⟨.hbm, 109, rfl⟩
abbrev main_cst_12 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩

abbrev nD : Nat := 1
abbrev τ : Topo := Topo.v7x

variable {F : FTy → Type} [FloatOps F]
-- ==== Proof.First.lean ====
/- The first launch of the program, at any float values: what its body leaves in each staging buffer as a function of
   the blocks it reads, and that the body, run at any grid point, leaves exactly that. The contents `V` of the buffers
   when the launch starts are a parameter. -/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.First

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of every TensorCore buffer when the launch starts. -/
abbrev Entry (F : FTy → Type) : Type := (c : Dev nD) → (b : Ref sig .tc) → Buf (Elt F) ((c : Thread nD τ).loc b)

variable (V : Entry F)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S512x512 := Rect.unit (s := S512x512) ![0, 0] S512x512.size inb_S512x512_S512x512_0_0
abbrev r0_1 : Rect S512x2048 := Rect.unit (s := S512x2048) ![0, 0] S512x256.size inb_S512x2048_S512x256_0_0
abbrev r0_2 : Rect S8x512x256 := Rect.unit (s := S8x512x256) ![0, 0, 0] S1x512x256.size inb_S8x512x256_S1x512x256_0_0_0
abbrev r0_3 : Rect S8x256 := Rect.unit (s := S8x256) ![0, 0] S1x256.size inb_S8x256_S1x256_0_0
abbrev r0_4 : Rect S16x512 := Rect.unit (s := S16x512) ![0, 0] S1x512.size inb_S16x512_S1x512_0_0
abbrev r0_5 : Rect S16x512 := Rect.unit (s := S16x512) ![8, 0] S1x512.size inb_S16x512_S1x512_8_0
abbrev r0_6 : Rect S512x2048 := Rect.unit (s := S512x2048) ![0, 256] S512x256.size inb_S512x2048_S512x256_0_256
abbrev r0_7 : Rect S8x512x256 := Rect.unit (s := S8x512x256) ![1, 0, 0] S1x512x256.size inb_S8x512x256_S1x512x256_1_0_0
abbrev r0_8 : Rect S8x256 := Rect.unit (s := S8x256) ![1, 0] S1x256.size inb_S8x256_S1x256_1_0
abbrev r0_9 : Rect S16x512 := Rect.unit (s := S16x512) ![1, 0] S1x512.size inb_S16x512_S1x512_1_0
abbrev r0_10 : Rect S16x512 := Rect.unit (s := S16x512) ![9, 0] S1x512.size inb_S16x512_S1x512_9_0
abbrev r0_11 : Rect S512x2048 := Rect.unit (s := S512x2048) ![0, 512] S512x256.size inb_S512x2048_S512x256_0_512
abbrev r0_12 : Rect S8x512x256 := Rect.unit (s := S8x512x256) ![2, 0, 0] S1x512x256.size inb_S8x512x256_S1x512x256_2_0_0
abbrev r0_13 : Rect S8x256 := Rect.unit (s := S8x256) ![2, 0] S1x256.size inb_S8x256_S1x256_2_0
abbrev r0_14 : Rect S16x512 := Rect.unit (s := S16x512) ![2, 0] S1x512.size inb_S16x512_S1x512_2_0
abbrev r0_15 : Rect S16x512 := Rect.unit (s := S16x512) ![10, 0] S1x512.size inb_S16x512_S1x512_10_0
abbrev r0_16 : Rect S512x2048 := Rect.unit (s := S512x2048) ![0, 768] S512x256.size inb_S512x2048_S512x256_0_768
abbrev r0_17 : Rect S8x512x256 := Rect.unit (s := S8x512x256) ![3, 0, 0] S1x512x256.size inb_S8x512x256_S1x512x256_3_0_0
abbrev r0_18 : Rect S8x256 := Rect.unit (s := S8x256) ![3, 0] S1x256.size inb_S8x256_S1x256_3_0
abbrev r0_19 : Rect S16x512 := Rect.unit (s := S16x512) ![3, 0] S1x512.size inb_S16x512_S1x512_3_0
abbrev r0_20 : Rect S16x512 := Rect.unit (s := S16x512) ![11, 0] S1x512.size inb_S16x512_S1x512_11_0
abbrev r0_21 : Rect S512x2048 := Rect.unit (s := S512x2048) ![0, 1024] S512x256.size inb_S512x2048_S512x256_0_1024
abbrev r0_22 : Rect S8x512x256 := Rect.unit (s := S8x512x256) ![4, 0, 0] S1x512x256.size inb_S8x512x256_S1x512x256_4_0_0
abbrev r0_23 : Rect S8x256 := Rect.unit (s := S8x256) ![4, 0] S1x256.size inb_S8x256_S1x256_4_0
abbrev r0_24 : Rect S16x512 := Rect.unit (s := S16x512) ![4, 0] S1x512.size inb_S16x512_S1x512_4_0
abbrev r0_25 : Rect S16x512 := Rect.unit (s := S16x512) ![12, 0] S1x512.size inb_S16x512_S1x512_12_0
abbrev r0_26 : Rect S512x2048 := Rect.unit (s := S512x2048) ![0, 1280] S512x256.size inb_S512x2048_S512x256_0_1280
abbrev r0_27 : Rect S8x512x256 := Rect.unit (s := S8x512x256) ![5, 0, 0] S1x512x256.size inb_S8x512x256_S1x512x256_5_0_0
abbrev r0_28 : Rect S8x256 := Rect.unit (s := S8x256) ![5, 0] S1x256.size inb_S8x256_S1x256_5_0
abbrev r0_29 : Rect S16x512 := Rect.unit (s := S16x512) ![5, 0] S1x512.size inb_S16x512_S1x512_5_0
abbrev r0_30 : Rect S16x512 := Rect.unit (s := S16x512) ![13, 0] S1x512.size inb_S16x512_S1x512_13_0
abbrev r0_31 : Rect S512x2048 := Rect.unit (s := S512x2048) ![0, 1536] S512x256.size inb_S512x2048_S512x256_0_1536
abbrev r0_32 : Rect S8x512x256 := Rect.unit (s := S8x512x256) ![6, 0, 0] S1x512x256.size inb_S8x512x256_S1x512x256_6_0_0
abbrev r0_33 : Rect S8x256 := Rect.unit (s := S8x256) ![6, 0] S1x256.size inb_S8x256_S1x256_6_0
abbrev r0_34 : Rect S16x512 := Rect.unit (s := S16x512) ![6, 0] S1x512.size inb_S16x512_S1x512_6_0
abbrev r0_35 : Rect S16x512 := Rect.unit (s := S16x512) ![14, 0] S1x512.size inb_S16x512_S1x512_14_0
abbrev r0_36 : Rect S512x2048 := Rect.unit (s := S512x2048) ![0, 1792] S512x256.size inb_S512x2048_S512x256_0_1792
abbrev r0_37 : Rect S8x512x256 := Rect.unit (s := S8x512x256) ![7, 0, 0] S1x512x256.size inb_S8x512x256_S1x512x256_7_0_0
abbrev r0_38 : Rect S8x256 := Rect.unit (s := S8x256) ![7, 0] S1x256.size inb_S8x256_S1x256_7_0
abbrev r0_39 : Rect S16x512 := Rect.unit (s := S16x512) ![7, 0] S1x512.size inb_S16x512_S1x512_7_0
abbrev r0_40 : Rect S16x512 := Rect.unit (s := S16x512) ![15, 0] S1x512.size inb_S16x512_S1x512_15_0

/-! ## What the body leaves in each output window's buffer -/

/-! ### Values of the body that the stores' payloads, spelt out, would write more than once

    Each is a vector the body binds, stated over the input windows' blocks. -/

def k0_pay47 (x0 : Vec F S512x512 .f32) (x1 : Vec F S512x2048 .f32) (x2 : Vec F S8x256 .f32) (x3 : Vec F S8x256 .f32) : FVec F S512x256 .f32 :=
  k0_pay7 (View.ld x0 r0_0) (View.ld x1 r0_6)
def k0_pay48 (x0 : Vec F S512x512 .f32) (x1 : Vec F S512x2048 .f32) (x2 : Vec F S8x256 .f32) (x3 : Vec F S8x256 .f32) : FVec F S512x2 .f32 :=
  k0_pay15 (View.ld x0 r0_0) (View.ld x1 r0_11) (View.ld x2 r0_13) (View.ld x3 r0_13)
def k0_pay49 (x0 : Vec F S512x512 .f32) (x1 : Vec F S512x2048 .f32) (x2 : Vec F S8x256 .f32) (x3 : Vec F S8x256 .f32) : FVec F S512x256 .f32 :=
  k0_pay30 (View.ld x0 r0_0) (View.ld x1 r0_26)
def k0_pay50 (x0 : Vec F S512x512 .f32) (x1 : Vec F S512x2048 .f32) (x2 : Vec F S8x256 .f32) (x3 : Vec F S8x256 .f32) : FVec F S512x2 .f32 :=
  k0_pay38 (View.ld x0 r0_0) (View.ld x1 r0_31) (View.ld x2 r0_33) (View.ld x3 r0_33)

/-- Window 4's staging buffer after the body, from the input windows' blocks: its 8 stores as pieces, LAST
    FIRST (Lib/Pipeline/FrameBody.lean `View.canon`; the payloads are the skeleton's and the values stated above). -/
def out0_4 (x0 : Vec F S512x512 .f32) (x1 : Vec F S512x2048 .f32) (x2 : Vec F S8x256 .f32) (x3 : Vec F S8x256 .f32) : Vec F S8x512x256 .bf16 :=
  View.canon [⟨r0_37, k0_pay43 (View.ld x0 r0_0) (View.ld x1 r0_36)⟩,
    ⟨r0_32, k0_pay37 (View.ld x0 r0_0) (View.ld x1 r0_31)⟩,
    ⟨r0_27, k0_pay32 (k0_pay31 (View.ld x0 r0_0) (View.ld x1 r0_26))⟩,
    ⟨r0_22, k0_pay26 (View.ld x0 r0_0) (View.ld x1 r0_21)⟩,
    ⟨r0_17, k0_pay20 (View.ld x0 r0_0) (View.ld x1 r0_16)⟩,
    ⟨r0_12, k0_pay14 (View.ld x0 r0_0) (View.ld x1 r0_11)⟩,
    ⟨r0_7, k0_pay9 (k0_pay8 (View.ld x0 r0_0) (View.ld x1 r0_6))⟩,
    ⟨r0_2, k0_pay3 (View.ld x0 r0_0) (View.ld x1 r0_1)⟩]

/-- Its stores tile the buffer (checked by evaluation), so they cover it. -/
theorem cover0_4 (p0 : Vec F S1x512x256 .bf16) (p1 : Vec F S1x512x256 .bf16) (p2 : Vec F S1x512x256 .bf16) (p3 : Vec F S1x512x256 .bf16) (p4 : Vec F S1x512x256 .bf16) (p5 : Vec F S1x512x256 .bf16) (p6 : Vec F S1x512x256 .bf16) (p7 : Vec F S1x512x256 .bf16) (y : S8x512x256.Idx) :
    ∃ pc ∈ ([⟨r0_37, p0⟩, ⟨r0_32, p1⟩, ⟨r0_27, p2⟩, ⟨r0_22, p3⟩, ⟨r0_17, p4⟩, ⟨r0_12, p5⟩, ⟨r0_7, p6⟩, ⟨r0_2, p7⟩] : List (View.Piece (Elt F) S8x512x256 .bf16)), y ∈ pc.1.set :=
  View.cover_of_tiled [⟨r0_37, p0⟩, ⟨r0_32, p1⟩, ⟨r0_27, p2⟩, ⟨r0_22, p3⟩, ⟨r0_17, p4⟩, ⟨r0_12, p5⟩, ⟨r0_7, p6⟩, ⟨r0_2, p7⟩] S1x512x256.size (by rfl) y

/-- Window 5's staging buffer after the body, from the input windows' blocks: its 16 stores as pieces, LAST
    FIRST (Lib/Pipeline/FrameBody.lean `View.canon`; the payloads are the skeleton's and the values stated above). -/
def out0_5 (x0 : Vec F S512x512 .f32) (x1 : Vec F S512x2048 .f32) (x2 : Vec F S8x256 .f32) (x3 : Vec F S8x256 .f32) : Vec F S16x512 .f32 :=
  View.canon [⟨r0_40, k0_pay1 (k0_pay46 (View.ld x0 r0_0) (View.ld x1 r0_36) (View.ld x2 r0_38) (View.ld x3 r0_38))⟩,
    ⟨r0_39, k0_pay45 (View.ld x0 r0_0) (View.ld x1 r0_36) (View.ld x2 r0_38) (View.ld x3 r0_38)⟩,
    ⟨r0_35, k0_pay41 (k0_pay50 x0 x1 x2 x3)⟩,
    ⟨r0_34, k0_pay40 (k0_pay50 x0 x1 x2 x3)⟩,
    ⟨r0_30, k0_pay35 (k0_pay49 x0 x1 x2 x3) (View.ld x2 r0_28) (View.ld x3 r0_28)⟩,
    ⟨r0_29, k0_pay34 (k0_pay49 x0 x1 x2 x3) (View.ld x2 r0_28) (View.ld x3 r0_28)⟩,
    ⟨r0_25, k0_pay29 (View.ld x0 r0_0) (View.ld x1 r0_21) (View.ld x2 r0_23) (View.ld x3 r0_23)⟩,
    ⟨r0_24, k0_pay28 (View.ld x0 r0_0) (View.ld x1 r0_21) (View.ld x2 r0_23) (View.ld x3 r0_23)⟩,
    ⟨r0_20, k0_pay24 (k0_pay23 (View.ld x0 r0_0) (View.ld x1 r0_16) (View.ld x2 r0_18) (View.ld x3 r0_18))⟩,
    ⟨r0_19, k0_pay22 (View.ld x0 r0_0) (View.ld x1 r0_16) (View.ld x2 r0_18) (View.ld x3 r0_18)⟩,
    ⟨r0_15, k0_pay18 (k0_pay48 x0 x1 x2 x3)⟩,
    ⟨r0_14, k0_pay17 (k0_pay48 x0 x1 x2 x3)⟩,
    ⟨r0_10, k0_pay12 (k0_pay47 x0 x1 x2 x3) (View.ld x2 r0_8) (View.ld x3 r0_8)⟩,
    ⟨r0_9, k0_pay11 (k0_pay47 x0 x1 x2 x3) (View.ld x2 r0_8) (View.ld x3 r0_8)⟩,
    ⟨r0_5, k0_pay6 (View.ld x0 r0_0) (View.ld x1 r0_1) (View.ld x2 r0_3) (View.ld x3 r0_3)⟩,
    ⟨r0_4, k0_pay5 (View.ld x0 r0_0) (View.ld x1 r0_1) (View.ld x2 r0_3) (View.ld x3 r0_3)⟩]

/-- Its stores tile the buffer (checked by evaluation), so they cover it. -/
theorem cover0_5 (p0 : Vec F S1x512 .f32) (p1 : Vec F S1x512 .f32) (p2 : Vec F S1x512 .f32) (p3 : Vec F S1x512 .f32) (p4 : Vec F S1x512 .f32) (p5 : Vec F S1x512 .f32) (p6 : Vec F S1x512 .f32) (p7 : Vec F S1x512 .f32) (p8 : Vec F S1x512 .f32) (p9 : Vec F S1x512 .f32) (p10 : Vec F S1x512 .f32) (p11 : Vec F S1x512 .f32) (p12 : Vec F S1x512 .f32) (p13 : Vec F S1x512 .f32) (p14 : Vec F S1x512 .f32) (p15 : Vec F S1x512 .f32) (y : S16x512.Idx) :
    ∃ pc ∈ ([⟨r0_40, p0⟩, ⟨r0_39, p1⟩, ⟨r0_35, p2⟩, ⟨r0_34, p3⟩, ⟨r0_30, p4⟩, ⟨r0_29, p5⟩, ⟨r0_25, p6⟩, ⟨r0_24, p7⟩, ⟨r0_20, p8⟩, ⟨r0_19, p9⟩, ⟨r0_15, p10⟩, ⟨r0_14, p11⟩, ⟨r0_10, p12⟩, ⟨r0_9, p13⟩, ⟨r0_5, p14⟩, ⟨r0_4, p15⟩] : List (View.Piece (Elt F) S16x512 .f32)), y ∈ pc.1.set :=
  View.cover_of_tiled [⟨r0_40, p0⟩, ⟨r0_39, p1⟩, ⟨r0_35, p2⟩, ⟨r0_34, p3⟩, ⟨r0_30, p4⟩, ⟨r0_29, p5⟩, ⟨r0_25, p6⟩, ⟨r0_24, p7⟩, ⟨r0_20, p8⟩, ⟨r0_19, p9⟩, ⟨r0_15, p10⟩, ⟨r0_14, p11⟩, ⟨r0_10, p12⟩, ⟨r0_9, p13⟩, ⟨r0_5, p14⟩, ⟨r0_4, p15⟩] S1x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x512 .f32) (harg1 : arg1.IsWhole) (arg2 : Memref sig .tc .vmem S512x2048 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x512x256 .bf16) (harg5 : arg5.IsWhole) (arg6 : Memref sig .tc .vmem S16x512 .f32) (harg6 : arg6.IsWhole)
    (x0 : Vec F S512x512 .f32) (x1 : Vec F S512x2048 .f32) (x2 : Vec F S8x256 .f32) (x3 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__pre1_kernel i arg1 harg1 arg2 harg2 arg3 harg3 arg4 harg4 arg5 harg5 arg6 harg6) K := by
  simp only [cc0__pre1_kernel_eq_skeleton]; unfold cc0__pre1_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _)).trans ?_
    rfl
  iexists _; isplitr
  swap; · iexact H5
  ipureintro
  refine (View.read_writes_eq_canon _ _ _ (cover0_5 _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out0_4 (iblk V c 0 t) (iblk V c 1 t) (iblk V c 2 t) (iblk V c 3 t)
    | ⟨5, _⟩ => out0_5 (iblk V c 0 t) (iblk V c 1 t) (iblk V c 2 t) (iblk V c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = out0_4 (iblk V c 0 t) (iblk V c 1 t) (iblk V c 2 t) (iblk V c 3 t) := by dsimp only [dat]
theorem after0_5 (c : Dev nD) (t : Fin cfg0.N) : (dat V c).after 5 t = out0_5 (iblk V c 0 t) (iblk V c 1 t) (iblk V c 2 t) (iblk V c 3 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).Φ t.succ = (dat V c).Φ t.castSucc from rfl,
    show (dat V c).owesAt () t.succ = (dat V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.First

end
-- ==== Proof.Second.lean ====
/- The second launch of the program, at any float values: what one grid point computes as a function of the blocks and
   scratch contents it reads, and that the body, run at a grid point of each kind, leaves exactly that. A point is
   (h, b), `h` a head for `h < 8` and the second layer for `h = 8`, `b` a block of 512 rows of the adjacency matrix. -/
module

public import proofs.«01_k».proof.Proof.First
public import Idealize.ShloMosaic.Lib.VecWindow
public import Idealize.ShloMosaic.Lib.Pipeline.Value

@[expose] public section

set_option maxRecDepth 16384

noncomputable section

namespace Cert.KernelIdeal.Second

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point of the first layer -/

section Head

variable (i : grid1.Coords) (h1 : k1_cond1 i = 1#1)
variable (adj : Vec F S2048x2048 .f32) (wh : Vec F S1x2048x256 .bf16) (sd : Vec F S16x2048 .f32) (w2 : Vec F S2048x256 .f32)

/-- The block's source scores, and the destination scores of each chunk of 512 columns, as loaded. -/
abbrev src1 : Vec F S1x512 .f32 := View.ld sd (Rect.unit (s := S16x2048) (k1_off1 i) S1x512.size (k1_off1_inb i h1))
abbrev dst1_0 : Vec F S1x512 .f32 := View.ld sd (Rect.unit (s := S16x2048) (k1_off2 i) S1x512.size (k1_off2_inb i h1))
abbrev dst1_1 : Vec F S1x512 .f32 := View.ld sd (Rect.unit (s := S16x2048) (k1_off4 i) S1x512.size (k1_off4_inb i h1))
abbrev dst1_2 : Vec F S1x512 .f32 := View.ld sd (Rect.unit (s := S16x2048) (k1_off6 i) S1x512.size (k1_off6_inb i h1))
abbrev dst1_3 : Vec F S1x512 .f32 := View.ld sd (Rect.unit (s := S16x2048) (k1_off8 i) S1x512.size (k1_off8_inb i h1))
/-- The block's rows of the adjacency matrix, each chunk of 512 columns, as loaded. -/
abbrev adj1_0 : Vec F S512x512 .f32 := View.ld adj (Rect.unit (s := S2048x2048) (k1_off3 i) S512x512.size (k1_off3_inb i h1))
abbrev adj1_1 : Vec F S512x512 .f32 := View.ld adj (Rect.unit (s := S2048x2048) (k1_off5 i) S512x512.size (k1_off5_inb i h1))
abbrev adj1_2 : Vec F S512x512 .f32 := View.ld adj (Rect.unit (s := S2048x2048) (k1_off7 i) S512x512.size (k1_off7_inb i h1))
abbrev adj1_3 : Vec F S512x512 .f32 := View.ld adj (Rect.unit (s := S2048x2048) (k1_off9 i) S512x512.size (k1_off9_inb i h1))
/-- The head's projected features, each chunk of 512 nodes, as loaded. -/
abbrev wh1_0 : Vec F S1x512x256 .bf16 := View.ld wh (Rect.unit (s := S1x2048x256) ![0, 0, 0] S1x512x256.size inb_S1x2048x256_S1x512x256_0_0_0)
abbrev wh1_1 : Vec F S1x512x256 .bf16 := View.ld wh (Rect.unit (s := S1x2048x256) ![0, 512, 0] S1x512x256.size inb_S1x2048x256_S1x512x256_0_512_0)
abbrev wh1_2 : Vec F S1x512x256 .bf16 := View.ld wh (Rect.unit (s := S1x2048x256) ![0, 1024, 0] S1x512x256.size inb_S1x2048x256_S1x512x256_0_1024_0)
abbrev wh1_3 : Vec F S1x512x256 .bf16 := View.ld wh (Rect.unit (s := S1x2048x256) ![0, 1536, 0] S1x512x256.size inb_S1x2048x256_S1x512x256_0_1536_0)

/-- The unnormalised weights of the third chunk, as a plain matrix. -/
def chunk1_2 : FVec F S512x512 .f32 := k1_pay20 (k1_pay9 (src1 i h1 sd)) (dst1_2 i h1 sd) (adj1_2 i h1 adj)

/-- The block's unnormalised weights, its four chunks side by side. -/
def raw1 : Vec F S1x512x2048 .f32 :=
  View.canon [⟨Rect.unit (s := S1x512x2048) ![0, 0, 1536] S1x512x512.size inb_S1x512x2048_S1x512x512_0_0_1536, k1_pay23 (k1_pay9 (src1 i h1 sd)) (dst1_3 i h1 sd) (adj1_3 i h1 adj)⟩,
    ⟨Rect.unit (s := S1x512x2048) ![0, 0, 1024] S1x512x512.size inb_S1x512x2048_S1x512x512_0_0_1024, k1_pay21 (k1_pay9 (src1 i h1 sd)) (dst1_2 i h1 sd) (adj1_2 i h1 adj)⟩,
    ⟨Rect.unit (s := S1x512x2048) ![0, 0, 512] S1x512x512.size inb_S1x512x2048_S1x512x512_0_0_512, k1_pay17 (k1_pay14 (dst1_1 i h1 sd)) (k1_pay15 (src1 i h1 sd)) (adj1_1 i h1 adj)⟩,
    ⟨Rect.unit (s := S1x512x2048) ![0, 0, 0] S1x512x512.size inb_S1x512x2048_S1x512x512_0_0_0, k1_pay11 (src1 i h1 sd) (dst1_0 i h1 sd) (adj1_0 i h1 adj)⟩]

/-- The reciprocal of the sum of each of the block's rows of weights. -/
def rcp1 : FVec F S512x1 .f32 :=
  k1_pay25 (k1_pay9 (src1 i h1 sd))
    (k1_pay18 (k1_pay12 (src1 i h1 sd) (dst1_0 i h1 sd) (adj1_0 i h1 adj)) (k1_pay14 (dst1_1 i h1 sd)) (k1_pay15 (src1 i h1 sd)) (adj1_1 i h1 adj))
    (chunk1_2 i h1 adj sd) (dst1_3 i h1 sd) (adj1_3 i h1 adj)

/-- The block's rows of weights times the head's features, before the division by the rows' sums. -/
def num1 : FVec F S512x256 .f32 :=
  k1_pay24 (k1_pay9 (src1 i h1 sd))
    (k1_pay19 (k1_pay13 (src1 i h1 sd) (dst1_0 i h1 sd) (adj1_0 i h1 adj) (wh1_0 wh)) (k1_pay14 (dst1_1 i h1 sd)) (k1_pay15 (src1 i h1 sd)) (adj1_1 i h1 adj) (wh1_1 wh))
    (chunk1_2 i h1 adj sd) (wh1_2 wh) (dst1_3 i h1 sd) (adj1_3 i h1 adj) (wh1_3 wh)

/-- The block of attention weights the point leaves. -/
def att1 : Vec F S1x512x2048 .f32 := k1_pay1 (rcp1 i h1 adj sd) (raw1 i h1 adj sd)

/-- The head's rows of the second layer's weight matrix. -/
abbrev w2h : Vec F S256x256 .f32 := View.ld w2 (Rect.unit (s := S2048x256) (k1_off10 i) S256x256.size (k1_off10_inb i h1))

/-- The accumulator after head 0's point: the block's rows replaced. -/
def acc0 (h2 : k1_cond2 i = 1#1) (sc : Vec F S2048x256 .f32) : Vec F S2048x256 .f32 :=
  VecWindow.put sc (k1_off11 i) S512x256.size (k1_pay3 (num1 i h1 adj wh sd) (rcp1 i h1 adj sd) (w2h i h1 w2))

/-- The accumulator after a later head's point: the block's rows added to. -/
def accS (h3 : k1_cond3 i = 1#1) (sc : Vec F S2048x256 .f32) : Vec F S2048x256 .f32 :=
  VecWindow.put sc (k1_off12 i) S512x256.size (k1_pay4 (num1 i h1 adj wh sd) (rcp1 i h1 adj sd) (w2h i h1 w2)
    (View.ld sc (Rect.unit (s := S2048x256) (k1_off12 i) S512x256.size (k1_off12_inb i h1 h3))))

end Head

/-- The four chunks tile the block of weights. -/
theorem cover_raw1 (p0 p1 p2 p3 : Vec F S1x512x512 .f32) (y : S1x512x2048.Idx) :
    ∃ pc ∈ ([⟨Rect.unit (s := S1x512x2048) ![0, 0, 1536] S1x512x512.size inb_S1x512x2048_S1x512x512_0_0_1536, p0⟩,
      ⟨Rect.unit (s := S1x512x2048) ![0, 0, 1024] S1x512x512.size inb_S1x512x2048_S1x512x512_0_0_1024, p1⟩,
      ⟨Rect.unit (s := S1x512x2048) ![0, 0, 512] S1x512x512.size inb_S1x512x2048_S1x512x512_0_0_512, p2⟩,
      ⟨Rect.unit (s := S1x512x2048) ![0, 0, 0] S1x512x512.size inb_S1x512x2048_S1x512x512_0_0_0, p3⟩] : List (View.Piece (Elt F) S1x512x2048 .f32)), y ∈ pc.1.set :=
  View.cover_of_tiled (s := S1x512x2048) _ S1x512x512.size (by rfl) y

set_option maxHeartbeats 1000000 in
/-- A point of head 0: the attention block is left at `att1` and the accumulator at `acc0`. -/
theorem sound_first (c : Dev nD) (E : Set ℕ) (i : grid1.Coords) (arg2 : Memref sig .tc .vmem S2048x2048 .f32) (harg2 : arg2.IsWhole) (arg3 : Memref sig .tc .vmem S1x2048x256 .bf16) (harg3 : arg3.IsWhole)
    (arg4 : Memref sig .tc .vmem S16x2048 .f32) (harg4 : arg4.IsWhole) (arg5 : Memref sig .tc .vmem S2048x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x512x2048 .f32) (harg8 : arg8.IsWhole) (arg9 : Memref sig .tc .vmem S512x2048 .f32) (harg9 : arg9.IsWhole)
    (arg10 : Memref sig .tc .vmem S512x256 .f32) (harg10 : arg10.IsWhole) (arg11 : Memref sig .tc .vmem S2048x256 .f32) (harg11 : arg11.IsWhole)
    (arg12 : Memref sig .tc .vmem S2x2048 .f32) (harg12 : arg12.IsWhole) (arg13 : Memref sig .tc .vmem S2048x256 .bf16) (harg13 : arg13.IsWhole)
    (hc1 : k1_cond1 i = 1#1) (hc2 : k1_cond2 i = 1#1) (hc3 : ¬ k1_cond3 i = 1#1) (hc4 : ¬ k1_cond4 i = 1#1)
    (x0 : Vec F S2048x2048 .f32) (x1 : Vec F S1x2048x256 .bf16) (x2 : Vec F S16x2048 .f32) (x3 : Vec F S2048x256 .f32)
    (sc : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ owns (c : Thread nD τ) arg11 fullShare sc
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg8 fullShare (att1 i hc1 x0 x2) ∗ owns (c : Thread nD τ) arg11 fullShare (acc0 i hc1 x0 x1 x2 x3 hc2 sc)) -∗ K ⟨⟩))
      ⊢ wp frame (wpE (defs₀ (F := F)) Variants.none c none) E (cc1__attn12_kernel i arg2 harg2 arg3 harg3 arg4 harg4 arg5 harg5 arg6 harg6 arg7 harg7 arg8 harg8 arg9 harg9 arg10 harg10 arg11 harg11 arg12 harg12 arg13 harg13) K := by
  simp only [cc1__attn12_kernel_eq_skeleton]; unfold cc1__attn12_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%f9, %hf9, H9⟩, Hk⟩
  subst hf0 hf1 hf2 hf3 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_full _ _ inb_S1x512x2048_S1x512x2048_0_0_0 _ _).trans ?_
    unfold att1
    refine congrArg₂ k1_pay1 rfl ?_
    refine (View.readCov_eq_canon_ld _ _ _ (cover_raw1 _ _ _ _)).trans ?_
    refine (View.ld_unit_zero (by decide) _ _).trans ?_
    rfl
  iexists _; isplitr
  swap; · iexact H9
  ipureintro
  refine (View.read_writes_cons_put _ _ _ _ _ rfl).trans ?_
  rfl

set_option maxHeartbeats 1000000 in
/-- A point of a later head: the attention block is left at `att1` and the accumulator at `accS`. -/
theorem sound_later (c : Dev nD) (E : Set ℕ) (i : grid1.Coords) (arg2 : Memref sig .tc .vmem S2048x2048 .f32) (harg2 : arg2.IsWhole) (arg3 : Memref sig .tc .vmem S1x2048x256 .bf16) (harg3 : arg3.IsWhole)
    (arg4 : Memref sig .tc .vmem S16x2048 .f32) (harg4 : arg4.IsWhole) (arg5 : Memref sig .tc .vmem S2048x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x512x2048 .f32) (harg8 : arg8.IsWhole) (arg9 : Memref sig .tc .vmem S512x2048 .f32) (harg9 : arg9.IsWhole)
    (arg10 : Memref sig .tc .vmem S512x256 .f32) (harg10 : arg10.IsWhole) (arg11 : Memref sig .tc .vmem S2048x256 .f32) (harg11 : arg11.IsWhole)
    (arg12 : Memref sig .tc .vmem S2x2048 .f32) (harg12 : arg12.IsWhole) (arg13 : Memref sig .tc .vmem S2048x256 .bf16) (harg13 : arg13.IsWhole)
    (hc1 : k1_cond1 i = 1#1) (hc2 : ¬ k1_cond2 i = 1#1) (hc3 : k1_cond3 i = 1#1) (hc4 : ¬ k1_cond4 i = 1#1)
    (x0 : Vec F S2048x2048 .f32) (x1 : Vec F S1x2048x256 .bf16) (x2 : Vec F S16x2048 .f32) (x3 : Vec F S2048x256 .f32)
    (sc : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ owns (c : Thread nD τ) arg11 fullShare sc
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg8 fullShare (att1 i hc1 x0 x2) ∗ owns (c : Thread nD τ) arg11 fullShare (accS i hc1 x0 x1 x2 x3 hc3 sc)) -∗ K ⟨⟩))
      ⊢ wp frame (wpE (defs₀ (F := F)) Variants.none c none) E (cc1__attn12_kernel i arg2 harg2 arg3 harg3 arg4 harg4 arg5 harg5 arg6 harg6 arg7 harg7 arg8 harg8 arg9 harg9 arg10 harg10 arg11 harg11 arg12 harg12 arg13 harg13) K := by
  simp only [cc1__attn12_kernel_eq_skeleton]; unfold cc1__attn12_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%f9, %hf9, H9⟩, Hk⟩
  subst hf0 hf1 hf2 hf3 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_full _ _ inb_S1x512x2048_S1x512x2048_0_0_0 _ _).trans ?_
    unfold att1
    refine congrArg₂ k1_pay1 rfl ?_
    refine (View.readCov_eq_canon_ld _ _ _ (cover_raw1 _ _ _ _)).trans ?_
    refine (View.ld_unit_zero (by decide) _ _).trans ?_
    rfl
  iexists _; isplitr
  swap; · iexact H9
  ipureintro
  refine (View.read_writes_cons_put _ _ _ _ _ rfl).trans ?_
  rfl

/-! ## One point of the second layer -/

section Final

variable (i : grid1.Coords) (h4 : k1_cond4 i = 1#1)
variable (adj : Vec F S2048x2048 .f32) (sd2 : Vec F S2x2048 .f32) (whb : Vec F S2048x256 .bf16)

/-- The block's source scores, and the destination scores of each chunk, as loaded. -/
abbrev src2 : Vec F S1x512 .f32 := View.ld sd2 (Rect.unit (s := S2x2048) (k1_off13 i) S1x512.size (k1_off13_inb i h4))
abbrev dst2_0 : Vec F S1x512 .f32 := View.ld sd2 (Rect.unit (s := S2x2048) ![1, 0] S1x512.size inb_S2x2048_S1x512_1_0)
abbrev dst2_1 : Vec F S1x512 .f32 := View.ld sd2 (Rect.unit (s := S2x2048) ![1, 512] S1x512.size inb_S2x2048_S1x512_1_512)
abbrev dst2_2 : Vec F S1x512 .f32 := View.ld sd2 (Rect.unit (s := S2x2048) ![1, 1024] S1x512.size inb_S2x2048_S1x512_1_1024)
abbrev dst2_3 : Vec F S1x512 .f32 := View.ld sd2 (Rect.unit (s := S2x2048) ![1, 1536] S1x512.size inb_S2x2048_S1x512_1_1536)
/-- The block's rows of the adjacency matrix, each chunk of 512 columns, as loaded. -/
abbrev adj2_0 : Vec F S512x512 .f32 := View.ld adj (Rect.unit (s := S2048x2048) (k1_off14 i) S512x512.size (k1_off14_inb i h4))
abbrev adj2_1 : Vec F S512x512 .f32 := View.ld adj (Rect.unit (s := S2048x2048) (k1_off15 i) S512x512.size (k1_off15_inb i h4))
abbrev adj2_2 : Vec F S512x512 .f32 := View.ld adj (Rect.unit (s := S2048x2048) (k1_off16 i) S512x512.size (k1_off16_inb i h4))
abbrev adj2_3 : Vec F S512x512 .f32 := View.ld adj (Rect.unit (s := S2048x2048) (k1_off17 i) S512x512.size (k1_off17_inb i h4))
/-- The second layer's features, each chunk of 512 nodes, as loaded. -/
abbrev wb_0 : Vec F S512x256 .bf16 := View.ld whb (Rect.unit (s := S2048x256) ![0, 0] S512x256.size inb_S2048x256_S512x256_0_0)
abbrev wb_1 : Vec F S512x256 .bf16 := View.ld whb (Rect.unit (s := S2048x256) ![512, 0] S512x256.size inb_S2048x256_S512x256_512_0)
abbrev wb_2 : Vec F S512x256 .bf16 := View.ld whb (Rect.unit (s := S2048x256) ![1024, 0] S512x256.size inb_S2048x256_S512x256_1024_0)
abbrev wb_3 : Vec F S512x256 .bf16 := View.ld whb (Rect.unit (s := S2048x256) ![1536, 0] S512x256.size inb_S2048x256_S512x256_1536_0)

/-- The leaky slope as the program holds it. -/
abbrev slope : F .f32 := Scalar.ofBits .f32 0x3E4CCCCD#32

/-- The block's unnormalised weights, its four chunks side by side. -/
def raw2 : Vec F S512x2048 .f32 :=
  View.canon [⟨Rect.unit (s := S512x2048) ![0, 1536] S512x512.size inb_S512x2048_S512x512_0_1536, k1_pay5 (k1_pay28 (src2 i h4 sd2)) (dst2_3 sd2) (adj2_3 i h4 adj)⟩,
    ⟨Rect.unit (s := S512x2048) ![0, 1024] S512x512.size inb_S512x2048_S512x512_0_1024, k1_pay34 (k1_pay28 (src2 i h4 sd2)) (dst2_2 sd2) (adj2_2 i h4 adj)⟩,
    ⟨Rect.unit (s := S512x2048) ![0, 512] S512x512.size inb_S512x2048_S512x512_0_512, k1_pay33 (k1_pay32 (src2 i h4 sd2) (dst2_1 sd2)) slope (adj2_1 i h4 adj)⟩,
    ⟨Rect.unit (s := S512x2048) ![0, 0] S512x512.size inb_S512x2048_S512x512_0_0, k1_pay29 (src2 i h4 sd2) (dst2_0 sd2) (adj2_0 i h4 adj)⟩]

/-- The sums of the block's rows over the first three chunks. -/
def sum2 : FVec F S512x1 .f32 :=
  k1_pay35 (k1_pay28 (src2 i h4 sd2)) (k1_pay30 (src2 i h4 sd2) (dst2_0 sd2) (adj2_0 i h4 adj)) (k1_pay32 (src2 i h4 sd2) (dst2_1 sd2)) slope (adj2_1 i h4 adj) (dst2_2 sd2) (adj2_2 i h4 adj)

/-- The block's rows of weights times the features, over the first three chunks. -/
def num2 : FVec F S512x256 .f32 :=
  k1_pay36 (k1_pay28 (src2 i h4 sd2)) (k1_pay31 (src2 i h4 sd2) (dst2_0 sd2) (adj2_0 i h4 adj) (wb_0 whb)) (k1_pay32 (src2 i h4 sd2) (dst2_1 sd2)) slope (adj2_1 i h4 adj) (wb_1 whb)
    (dst2_2 sd2) (adj2_2 i h4 adj) (wb_2 whb)

/-- The block of attention weights the point leaves. -/
def att2 : Vec F S512x2048 .f32 :=
  k1_pay7 (k1_pay28 (src2 i h4 sd2)) (sum2 i h4 adj sd2) (dst2_3 sd2) (adj2_3 i h4 adj) (raw2 i h4 adj sd2)

/-- The block of rows of the result the point leaves. -/
def out2 : Vec F S512x256 .f32 :=
  k1_pay8 (k1_pay28 (src2 i h4 sd2)) (sum2 i h4 adj sd2) (num2 i h4 adj sd2 whb) (dst2_3 sd2) (adj2_3 i h4 adj) (wb_3 whb)

end Final

/-- The four chunks tile the block of weights. -/
theorem cover_raw2 (p0 p1 p2 p3 : Vec F S512x512 .f32) (y : S512x2048.Idx) :
    ∃ pc ∈ ([⟨Rect.unit (s := S512x2048) ![0, 1536] S512x512.size inb_S512x2048_S512x512_0_1536, p0⟩,
      ⟨Rect.unit (s := S512x2048) ![0, 1024] S512x512.size inb_S512x2048_S512x512_0_1024, p1⟩,
      ⟨Rect.unit (s := S512x2048) ![0, 512] S512x512.size inb_S512x2048_S512x512_0_512, p2⟩,
      ⟨Rect.unit (s := S512x2048) ![0, 0] S512x512.size inb_S512x2048_S512x512_0_0, p3⟩] : List (View.Piece (Elt F) S512x2048 .f32)), y ∈ pc.1.set :=
  View.cover_of_tiled (s := S512x2048) _ S512x512.size (by rfl) y

/-- The test a point of the second layer makes on its block number: whether it is the first one. -/
abbrev firstBlock (i : grid1.Coords) : Prop :=
  Scalar.cmpi .ne (Scalar.extui (Scalar.cmpi .eq (BitVec.ofNat 32 (i 1).val) 0#32) : BitVec 32) 0#32 = 1#1

/-- A load after a store of the whole buffer finds the load of what was stored. -/
theorem readCov_stored {sp : Space} {S : Shape} {e : EltTy} (v : View sig .tc sp S e) {off : Fin S.rank → ℕ} (h : off = fun _ => 0)
    (inb : ∀ a, off a + S.size a ≤ S.size a) (w : S.Idx → Elt F e) (r : Rect S) :
    v.readCov [⟨Rect.unit off S.size inb, w⟩] r.toLoadRect = View.ld w r := by
  rw [View.readCov_eq_canon', View.canon_cons_unit_zero h inb w []]

set_option maxHeartbeats 1000000 in
/-- The first point of the second layer: the two scratch buffers are filled from the accumulator, and the two output
blocks are left at `att2` and `out2` of them. -/
theorem sound_start (c : Dev nD) (E : Set ℕ) (i : grid1.Coords) (arg2 : Memref sig .tc .vmem S2048x2048 .f32) (harg2 : arg2.IsWhole) (arg3 : Memref sig .tc .vmem S1x2048x256 .bf16) (harg3 : arg3.IsWhole)
    (arg4 : Memref sig .tc .vmem S16x2048 .f32) (harg4 : arg4.IsWhole) (arg5 : Memref sig .tc .vmem S2048x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x512x2048 .f32) (harg8 : arg8.IsWhole) (arg9 : Memref sig .tc .vmem S512x2048 .f32) (harg9 : arg9.IsWhole)
    (arg10 : Memref sig .tc .vmem S512x256 .f32) (harg10 : arg10.IsWhole) (arg11 : Memref sig .tc .vmem S2048x256 .f32) (harg11 : arg11.IsWhole)
    (arg12 : Memref sig .tc .vmem S2x2048 .f32) (harg12 : arg12.IsWhole) (arg13 : Memref sig .tc .vmem S2048x256 .bf16) (harg13 : arg13.IsWhole)
    (hc1 : ¬ k1_cond1 i = 1#1) (hc4 : k1_cond4 i = 1#1) (hc5 : firstBlock i)
    (x0 : Vec F S2048x2048 .f32) (x4 x5 : Vec F S1x256 .f32) (sc : Vec F S2048x256 .f32) (K : PUnit → sProp 𝕄) :
    iprop(owns (c : Thread nD τ) arg2 fullShare x0 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ owns (c : Thread nD τ) arg11 fullShare sc ∗ (∃ d, owns (c : Thread nD τ) arg12 fullShare d) ∗ (∃ d, owns (c : Thread nD τ) arg13 fullShare d)
        ∗ (iprop(owns (c : Thread nD τ) arg2 fullShare x0 ∗ owns (c : Thread nD τ) arg6 fullShare x4 ∗ owns (c : Thread nD τ) arg7 fullShare x5 ∗ owns (c : Thread nD τ) arg9 fullShare (att2 i hc4 x0 (k1_pay26 x4 x5 sc)) ∗ owns (c : Thread nD τ) arg10 fullShare (out2 i hc4 x0 (k1_pay26 x4 x5 sc) (k1_pay27 sc)) ∗ owns (c : Thread nD τ) arg11 fullShare sc ∗ owns (c : Thread nD τ) arg12 fullShare (k1_pay26 x4 x5 sc) ∗ owns (c : Thread nD τ) arg13 fullShare (k1_pay27 sc)) -∗ K ⟨⟩))
      ⊢ wp frame (wpE (defs₀ (F := F)) Variants.none c none) E (cc1__attn12_kernel i arg2 harg2 arg3 harg3 arg4 harg4 arg5 harg5 arg6 harg6 arg7 harg7 arg8 harg8 arg9 harg9 arg10 harg10 arg11 harg11 arg12 harg12 arg13 harg13) K := by
  simp only [cc1__attn12_kernel_eq_skeleton]; unfold cc1__attn12_kernel_skel
  simp only [k1_part1_eq_skeleton, k1_part2_eq_skeleton, k1_part3_eq_skeleton, k1_part4_eq_skeleton, k1_part5_eq_skeleton]
  unfold owns
  iintro ⟨⟨%f0, %hf0, H0⟩, ⟨%f4, %hf4, H4⟩, ⟨%f5, %hf5, H5⟩, ⟨%d7, %f7, -, H7⟩, ⟨%d8, %f8, -, H8⟩, ⟨%f9, %hf9, H9⟩, ⟨%d10, %f10, -, H10⟩, ⟨%d11, %f11, -, H11⟩, Hk⟩
  subst hf0 hf4 hf5 hf9
  sl_exec
  sl_step
  have e12 : ∀ r : Rect S2x2048, arg12.view.readCov (sound_start.sl.H10_1 c arg6 arg7 arg11 f4 f5 f9) r.toLoadRect
      = View.ld (k1_pay26 (View.read (Elt F) arg6.view f4) (View.read (Elt F) arg7.view f5) (View.read (Elt F) arg11.view f9)) r := fun r =>
    (readCov_stored arg12.view (by decide) inb_S2x2048_S2x2048_0_0 _ r).trans
      (by rw [View.readAt_full, View.readAt_full, View.readAt_full])
  have e13 : ∀ r : Rect S2048x256, arg13.view.readCov (sound_start.sl.H11_1 c arg11 f9) r.toLoadRect
      = View.ld (k1_pay27 (View.read (Elt F) arg11.view f9)) r := fun r =>
    (readCov_stored arg13.view (by decide) inb_S2048x256_S2048x256_0_0 _ r).trans (by rw [View.readAt_full])
  have h11 : sound_start.sl.v11 c i arg6 arg7 arg11 arg12 hc4 f4 f5 f9 = src2 i hc4 (k1_pay26 (View.read (Elt F) arg6.view f4) (View.read (Elt F) arg7.view f5) (View.read (Elt F) arg11.view f9)) := e12 _
  have h16 : sound_start.sl.v16 c arg6 arg7 arg11 arg12 f4 f5 f9 = dst2_0 (k1_pay26 (View.read (Elt F) arg6.view f4) (View.read (Elt F) arg7.view f5) (View.read (Elt F) arg11.view f9)) := e12 _
  have h38 : sound_start.sl.v38 c arg6 arg7 arg11 arg12 f4 f5 f9 = dst2_1 (k1_pay26 (View.read (Elt F) arg6.view f4) (View.read (Elt F) arg7.view f5) (View.read (Elt F) arg11.view f9)) := e12 _
  have h60 : sound_start.sl.v60 c arg6 arg7 arg11 arg12 f4 f5 f9 = dst2_2 (k1_pay26 (View.read (Elt F) arg6.view f4) (View.read (Elt F) arg7.view f5) (View.read (Elt F) arg11.view f9)) := e12 _
  have h82 : sound_start.sl.v82 c arg6 arg7 arg11 arg12 f4 f5 f9 = dst2_3 (k1_pay26 (View.read (Elt F) arg6.view f4) (View.read (Elt F) arg7.view f5) (View.read (Elt F) arg11.view f9)) := e12 _
  have h35 : sound_start.sl.v35 c arg11 arg13 f9 = wb_0 (k1_pay27 (View.read (Elt F) arg11.view f9)) := e13 _
  have h57 : sound_start.sl.v57 c arg11 arg13 f9 = wb_1 (k1_pay27 (View.read (Elt F) arg11.view f9)) := e13 _
  have h79 : sound_start.sl.v79 c arg11 arg13 f9 = wb_2 (k1_pay27 (View.read (Elt F) arg11.view f9)) := e13 _
  have h101 : sound_start.sl.v101 c arg11 arg13 f9 = wb_3 (k1_pay27 (View.read (Elt F) arg11.view f9)) := e13 _
  iapply Hk
  isplitl [H0]
  · iexists f0; isplitr; · ipureintro; rfl
    iexact H0
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_full _ _ inb_S512x2048_S512x2048_0_0 _ _).trans ?_
    have e9 : sound_start.sl.v106 c i arg2 arg6 arg7 arg9 arg11 arg12 hc4 f0 f4 f5 f9
        = raw2 i hc4 (View.read (Elt F) arg2.view f0) (k1_pay26 (View.read (Elt F) arg6.view f4) (View.read (Elt F) arg7.view f5) (View.read (Elt F) arg11.view f9)) := by
      refine (View.readCov_eq_canon_ld _ _ _ (cover_raw2 _ _ _ _)).trans ?_
      refine (View.ld_unit_zero (by decide) _ _).trans ?_
      unfold sound_start.sl.r sound_start.sl.r_3
      rw [h11, h16, h38, h60, h82]
      rfl
    unfold sound_start.sl.r_4 sound_start.sl.r_1 sound_start.sl.r sound_start.sl.r_3
    rw [e9, h11, h16, h38, h60, h82]
    rfl
  isplitl [H8]
  · iexists _; isplitr
    swap; · iexact H8
    ipureintro
    refine (View.read_writes_full _ _ inb_S512x256_S512x256_0_0 _ _).trans ?_
    unfold sound_start.sl.r_5 sound_start.sl.r_4 sound_start.sl.r_2 sound_start.sl.r_1 sound_start.sl.r sound_start.sl.r_3
    rw [h11, h16, h38, h60, h82, h35, h57, h79, h101]
    rfl
  isplitl [H9]
  · iexists f9; isplitr; · ipureintro; rfl
    iexact H9
  isplitl [H10]
  · iexists _; isplitr
    swap; · iexact H10
    ipureintro
    exact (View.read_writes_full _ _ inb_S2x2048_S2x2048_0_0 _ _).trans (by rw [View.readAt_full, View.readAt_full, View.readAt_full])
  iexists _; isplitr
  swap; · iexact H11
  ipureintro
  exact (View.read_writes_full _ _ inb_S2048x256_S2048x256_0_0 _ _).trans (by rw [View.readAt_full])

set_option maxHeartbeats 1000000 in
/-- A later point of the second layer: the two output blocks are left at `att2` and `out2` of the scratch contents. -/
theorem sound_rest (c : Dev nD) (E : Set ℕ) (i : grid1.Coords) (arg2 : Memref sig .tc .vmem S2048x2048 .f32) (harg2 : arg2.IsWhole) (arg3 : Memref sig .tc .vmem S1x2048x256 .bf16) (harg3 : arg3.IsWhole)
    (arg4 : Memref sig .tc .vmem S16x2048 .f32) (harg4 : arg4.IsWhole) (arg5 : Memref sig .tc .vmem S2048x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x512x2048 .f32) (harg8 : arg8.IsWhole) (arg9 : Memref sig .tc .vmem S512x2048 .f32) (harg9 : arg9.IsWhole)
    (arg10 : Memref sig .tc .vmem S512x256 .f32) (harg10 : arg10.IsWhole) (arg11 : Memref sig .tc .vmem S2048x256 .f32) (harg11 : arg11.IsWhole)
    (arg12 : Memref sig .tc .vmem S2x2048 .f32) (harg12 : arg12.IsWhole) (arg13 : Memref sig .tc .vmem S2048x256 .bf16) (harg13 : arg13.IsWhole)
    (hc1 : ¬ k1_cond1 i = 1#1) (hc4 : k1_cond4 i = 1#1) (hc5 : ¬ firstBlock i)
    (x0 : Vec F S2048x2048 .f32) (sd2 : Vec F S2x2048 .f32) (whb : Vec F S2048x256 .bf16) (K : PUnit → sProp 𝕄) :
    iprop(owns (c : Thread nD τ) arg2 fullShare x0 ∗ (∃ d, owns (c : Thread nD τ) arg9 fullShare d) ∗ (∃ d, owns (c : Thread nD τ) arg10 fullShare d) ∗ owns (c : Thread nD τ) arg12 fullShare sd2 ∗ owns (c : Thread nD τ) arg13 fullShare whb
        ∗ (iprop(owns (c : Thread nD τ) arg2 fullShare x0 ∗ owns (c : Thread nD τ) arg9 fullShare (att2 i hc4 x0 sd2) ∗ owns (c : Thread nD τ) arg10 fullShare (out2 i hc4 x0 sd2 whb) ∗ owns (c : Thread nD τ) arg12 fullShare sd2 ∗ owns (c : Thread nD τ) arg13 fullShare whb) -∗ K ⟨⟩))
      ⊢ wp frame (wpE (defs₀ (F := F)) Variants.none c none) E (cc1__attn12_kernel i arg2 harg2 arg3 harg3 arg4 harg4 arg5 harg5 arg6 harg6 arg7 harg7 arg8 harg8 arg9 harg9 arg10 harg10 arg11 harg11 arg12 harg12 arg13 harg13) K := by
  simp only [cc1__attn12_kernel_eq_skeleton]; unfold cc1__attn12_kernel_skel
  simp only [k1_part1_eq_skeleton, k1_part2_eq_skeleton, k1_part3_eq_skeleton, k1_part4_eq_skeleton, k1_part5_eq_skeleton]
  unfold owns
  iintro ⟨⟨%f0, %hf0, H0⟩, ⟨%d7, %f7, -, H7⟩, ⟨%d8, %f8, -, H8⟩, ⟨%f10, %hf10, H10⟩, ⟨%f11, %hf11, H11⟩, Hk⟩
  subst hf0 hf10 hf11
  sl_exec
  sl_step
  iapply Hk
  isplitl [H0]
  · iexists f0; isplitr; · ipureintro; rfl
    iexact H0
  isplitl [H7]
  · iexists _; isplitr
    swap; · iexact H7
    ipureintro
    refine (View.read_writes_full _ _ inb_S512x2048_S512x2048_0_0 _ _).trans ?_
    unfold att2
    refine congr (congrArg _ ?_) ?_
    · rfl
    refine (View.readCov_eq_canon_ld _ _ _ (cover_raw2 _ _ _ _)).trans ?_
    refine (View.ld_unit_zero (by decide) _ _).trans ?_
    rfl
  isplitl [H8]
  · iexists _; isplitr
    swap; · iexact H8
    ipureintro
    refine (View.read_writes_full _ _ inb_S512x256_S512x256_0_0 _ _).trans ?_
    rfl
  isplitl [H10]
  · iexists f10; isplitr; · ipureintro; rfl
    iexact H10
  iexists f11; isplitr; · ipureintro; rfl
  iexact H11

end Cert.KernelIdeal.Second

end
-- ==== Proof.Points.lean ====
/- The second launch of the program, at any float values: what each window's buffer and each scratch buffer holds
   before and after every grid point, as functions of the arrays the launch finds, and that the body keeps it so. The
   accumulator's block of rows `b` holds after head `h` the sum over the heads up to `h` (`accV h b`). -/
module

public import proofs.«01_k».proof.Proof.Second
public import Idealize.ShloMosaic.Lib.Pipeline.TableIdle

@[expose] public section

set_option maxRecDepth 16384

noncomputable section

namespace Cert.KernelIdeal.Points

open Cert.KernelIdeal.Gen Cert.KernelIdeal.Second
open Cert.KernelIdeal.First (Entry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Entry F)

/-! ## The schedule -/

theorem cond1_iff : ∀ t : Fin cfg1.N, k1_cond1 (grid1.coords t) = 1#1 ↔ t.val < 32 := by decide +kernel
theorem cond2_iff : ∀ t : Fin cfg1.N, k1_cond2 (grid1.coords t) = 1#1 ↔ t.val < 4 := by decide +kernel
theorem cond3_iff : ∀ t : Fin cfg1.N, k1_cond3 (grid1.coords t) = 1#1 ↔ 4 ≤ t.val := by decide +kernel
theorem cond4_iff : ∀ t : Fin cfg1.N, k1_cond4 (grid1.coords t) = 1#1 ↔ 32 ≤ t.val := by decide +kernel
theorem first_iff : ∀ t : Fin cfg1.N, firstBlock (grid1.coords t) ↔ t.val % 4 = 0 := by decide +kernel
theorem off11_eq : ∀ t : Fin cfg1.N, k1_off11 (grid1.coords t) = ![512 * (t.val % 4), 0] := by decide +kernel
theorem off12_eq : ∀ t : Fin cfg1.N, k1_off12 (grid1.coords t) = ![512 * (t.val % 4), 0] := by decide +kernel
/-- The attention window of layer one is idle exactly at the last four points, -/
theorem idle6 : ∀ t : Fin cfg1.N, cfg1.idle 6 (cfg1.grid.coords t) = decide (32 ≤ t.val) := by decide +kernel
/-- those of layer two exactly at the others; -/
theorem idle7 : ∀ t : Fin cfg1.N, cfg1.idle 7 (cfg1.grid.coords t) = decide (t.val < 32) := by decide +kernel
theorem idle8 : ∀ t : Fin cfg1.N, cfg1.idle 8 (cfg1.grid.coords t) = decide (t.val < 32) := by decide +kernel
/-- the first is written back at every point up to 30 and at the last one, -/
theorem flush6 (t : Fin cfg1.N) : (cfg1.win 6).flush t = (decide (t.val < 31) || decide (t.val = 35)) := by
  rw [Window.flush_eq_flushF]; revert t; decide +kernel
/-- the others at the last four points. -/
theorem flush7 (t : Fin cfg1.N) : (cfg1.win 7).flush t = decide (32 ≤ t.val) := by
  rw [Window.flush_eq_flushF]; revert t; decide +kernel
theorem flush8 (t : Fin cfg1.N) : (cfg1.win 8).flush t = decide (32 ≤ t.val) := by
  rw [Window.flush_eq_flushF]; revert t; decide +kernel

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the points compute -/

section Values

variable (c : Dev nD)

/-- At a point of layer one: the rows of weights times features, the reciprocals of the row sums, the head's rows of the
    second weight matrix, and the block of attention weights. -/
def numAt (t : Fin cfg1.N) (h : t.val < 32) : FVec F S512x256 .f32 :=
  num1 (grid1.coords t) ((cond1_iff t).mpr h) (iblk V c 0 t) (iblk V c 1 t) (iblk V c 2 t)
def rcpAt (t : Fin cfg1.N) (h : t.val < 32) : FVec F S512x1 .f32 :=
  rcp1 (grid1.coords t) ((cond1_iff t).mpr h) (iblk V c 0 t) (iblk V c 2 t)
def w2At (t : Fin cfg1.N) (h : t.val < 32) : Vec F S256x256 .f32 :=
  w2h (grid1.coords t) ((cond1_iff t).mpr h) (iblk V c 3 t)
def att1At (t : Fin cfg1.N) (h : t.val < 32) : Vec F S1x512x2048 .f32 :=
  att1 (grid1.coords t) ((cond1_iff t).mpr h) (iblk V c 0 t) (iblk V c 2 t)

/-- Head `h`'s point of block `b`. -/
def pt (h : ℕ) (b : Fin 4) (hh : h < 8) : Fin cfg1.N := ⟨4 * h + b.val, by have := b.isLt; show 4 * h + b.val < 36; omega⟩
theorem pt_lt (h : ℕ) (b : Fin 4) (hh : h < 8) : (pt h b hh).val < 32 := by have := b.isLt; show 4 * h + b.val < 32; omega

/-- The accumulator's block of rows `b` after head `h`. -/
def accV (b : Fin 4) : ℕ → FVec F S512x256 .f32
  | 0 => k1_pay3 (numAt V c (pt 0 b (by decide)) (pt_lt _ _ _)) (rcpAt V c (pt 0 b (by decide)) (pt_lt _ _ _)) (w2At V c (pt 0 b (by decide)) (pt_lt _ _ _))
  | h + 1 => if hh : h + 1 < 8 then
      k1_pay4 (numAt V c (pt (h + 1) b hh) (pt_lt _ _ _)) (rcpAt V c (pt (h + 1) b hh) (pt_lt _ _ _)) (w2At V c (pt (h + 1) b hh) (pt_lt _ _ _)) (accV b h)
    else accV b h

/-- The block a row of the accumulator is in, and the row within it. -/
def blkOf (y : S2048x256.Idx) : Fin 4 := ⟨(y 0).val / 512, by have h : (y 0).val < 2048 := (y 0).isLt; omega⟩
def rowIn (y : S2048x256.Idx) : S512x256.Idx := Fin.cons ⟨(y 0).val % 512, Nat.mod_lt _ (by decide)⟩ (Fin.cons (y 1) fun i => i.elim0)

/-- The accumulator before point `n`, on the rows a point before `n` has written. -/
def acc (n : ℕ) : Vec F S2048x256 .f32 := fun y => accV V c (blkOf y) ((min n 32 - 1 - (blkOf y).val) / 4) (rowIn y)

/-- The accumulator after the last head. -/
def accEnd : Vec F S2048x256 .f32 := acc V c 32

/-- The scratch buffers of layer two, as its first point fills them. -/
def sd2End : Vec F S2x2048 .f32 := k1_pay26 (iblk V c 4 ⟨32, by decide⟩) (iblk V c 5 ⟨32, by decide⟩) (accEnd V c)
def whbEnd : Vec F S2048x256 .bf16 := k1_pay27 (accEnd V c)

/-- At a point of layer two: the block of attention weights and the block of rows of the result. -/
def att2At (t : Fin cfg1.N) (h : 32 ≤ t.val) : Vec F S512x2048 .f32 :=
  att2 (grid1.coords t) ((cond4_iff t).mpr h) (iblk V c 0 t) (sd2End V c)
def out2At (t : Fin cfg1.N) (h : 32 ≤ t.val) : Vec F S512x256 .f32 :=
  out2 (grid1.coords t) ((cond4_iff t).mpr h) (iblk V c 0 t) (sd2End V c) (whbEnd V c)

/-- The point itself or, past it, the last point of layer one; the point itself or, before it, the first of layer two. -/
def down (t : Fin cfg1.N) : Fin cfg1.N := ⟨min t.val 31, by show min t.val 31 < 36; omega⟩
theorem down_lt (t : Fin cfg1.N) : (down t).val < 32 := by show min t.val 31 < 32; omega
def up (t : Fin cfg1.N) : Fin cfg1.N := ⟨max t.val 32, by have h : t.val < 36 := t.isLt; show max t.val 32 < 36; omega⟩
theorem le_up (t : Fin cfg1.N) : 32 ≤ (up t).val := by show 32 ≤ max t.val 32; omega

end Values

/-! ## The accumulator's step -/

/-- The accumulator's contents before point `n` that the launch relies on: the rows written so far. -/
def Good (c : Dev nD) (n : ℕ) (sc : Vec F S2048x256 .f32) : Prop := ∀ y : S2048x256.Idx, (y 0).val < 512 * n → sc y = acc V c n y

theorem good_zero (c : Dev nD) (sc : Vec F S2048x256 .f32) : Good V c 0 sc := fun y h => absurd h (by omega)

theorem good_end (c : Dev nD) (n : ℕ) (hn : 32 ≤ n) (sc : Vec F S2048x256 .f32) : Good V c n sc ↔ sc = accEnd V c := by
  have e : acc V c n = accEnd V c := by funext y; unfold accEnd acc; rw [Nat.min_eq_right hn, Nat.min_self]
  constructor
  · intro h; funext y
    have hy : (y 0).val < 2048 := (y 0).isLt
    rw [h y (by omega), e]
  · rintro rfl y _; rw [e]

/-- A store of a block's new rows at point `t` keeps the accumulator good, if the rows are the ones due. -/
theorem good_put (c : Dev nD) (t : Fin cfg1.N) (ht : t.val < 32) (sc : Vec F S2048x256 .f32) (hg : Good V c t.val sc)
    (w : Vec F S512x256 .f32) (hw : w = accV V c ⟨t.val % 4, Nat.mod_lt _ (by decide)⟩ (t.val / 4)) (off : Fin 2 → ℕ)
    (hoff : off = ![512 * (t.val % 4), 0]) : Good V c (t.val + 1) (VecWindow.put (s := S2048x256) sc off S512x256.size w) := by
  intro y hy
  have hy0 : (y 0).val < 2048 := (y 0).isLt
  have hy1 : (y 1).val < 256 := (y 1).isLt
  have o0 : off 0 = 512 * (t.val % 4) := by rw [hoff]; rfl
  have o1 : off 1 = 0 := by rw [hoff]; rfl
  by_cases hb : (y 0).val / 512 = t.val % 4
  · have hin : ∀ a : Fin 2, off a ≤ (y a).val ∧ (y a).val < off a + S512x256.size a := by
      intro a; fin_cases a
      · show off 0 ≤ (y 0).val ∧ (y 0).val < off 0 + 512; rw [o0]; omega
      · show off 1 ≤ (y 1).val ∧ (y 1).val < off 1 + 256; rw [o1]; omega
    refine (dif_pos hin).trans ?_
    rw [hw]; unfold acc
    have e1 : blkOf y = ⟨t.val % 4, Nat.mod_lt _ (by decide)⟩ := Fin.ext hb
    have e2 : (min (t.val + 1) 32 - 1 - (blkOf y).val) / 4 = t.val / 4 := by rw [e1]; show (min (t.val + 1) 32 - 1 - t.val % 4) / 4 = _; omega
    rw [e2, e1]
    refine congrArg _ (funext fun a => Fin.ext ?_)
    fin_cases a
    · show (y 0).val - off 0 = (y 0).val % 512; rw [o0]; omega
    · show (y 1).val - off 1 = (y 1).val; rw [o1]; omega
  · have hout : ¬ ∀ a : Fin 2, off a ≤ (y a).val ∧ (y a).val < off a + S512x256.size a := by
      intro h
      have h0 : off 0 ≤ (y 0).val ∧ (y 0).val < off 0 + 512 := h 0
      rw [o0] at h0; omega
    refine (dif_neg hout).trans ?_
    rw [hg y (by omega)]
    unfold acc
    have e2 : (min (t.val + 1) 32 - 1 - (blkOf y).val) / 4 = (min t.val 32 - 1 - (blkOf y).val) / 4 := by
      show (min (t.val + 1) 32 - 1 - (y 0).val / 512) / 4 = (min t.val 32 - 1 - (y 0).val / 512) / 4; omega
    rw [e2]

theorem pt_eq (t : Fin cfg1.N) (h : t.val / 4 < 8) : pt (t.val / 4) ⟨t.val % 4, Nat.mod_lt _ (by decide)⟩ h = t :=
  Fin.ext (by show 4 * (t.val / 4) + t.val % 4 = t.val; omega)

theorem good_first (c : Dev nD) (t : Fin cfg1.N) (ht : t.val < 4) (sc : Vec F S2048x256 .f32) (hg : Good V c t.val sc) :
    Good V c (t.val + 1) (acc0 (grid1.coords t) ((cond1_iff t).mpr (by omega)) (iblk V c 0 t) (iblk V c 1 t) (iblk V c 2 t) (iblk V c 3 t)
      ((cond2_iff t).mpr ht) sc) := by
  refine good_put V c t (by omega) sc hg _ ?_ _ (off11_eq t)
  have e0 : t.val / 4 = 0 := by omega
  rw [e0]
  have key : ∀ t' : Fin cfg1.N, t' = t → ∀ h' : t'.val < 32, k1_pay3 (numAt V c t (by omega)) (rcpAt V c t (by omega)) (w2At V c t (by omega))
      = k1_pay3 (numAt V c t' h') (rcpAt V c t' h') (w2At V c t' h') := by rintro _ rfl _; rfl
  exact key (pt 0 _ (by decide)) (Fin.ext (by show 4 * 0 + t.val % 4 = t.val; omega)) (pt_lt _ _ _)

theorem good_later (c : Dev nD) (t : Fin cfg1.N) (h4 : 4 ≤ t.val) (ht : t.val < 32) (sc : Vec F S2048x256 .f32) (hg : Good V c t.val sc) :
    Good V c (t.val + 1) (accS (grid1.coords t) ((cond1_iff t).mpr ht) (iblk V c 0 t) (iblk V c 1 t) (iblk V c 2 t) (iblk V c 3 t)
      ((cond3_iff t).mpr h4) sc) := by
  refine good_put V c t ht sc hg _ ?_ _ (off12_eq t)
  obtain ⟨h, hh⟩ : ∃ h, t.val / 4 = h + 1 := ⟨t.val / 4 - 1, by omega⟩
  rw [hh]
  have h8 : h + 1 < 8 := by omega
  have key : ∀ t' : Fin cfg1.N, t' = t → ∀ h' : t'.val < 32, ∀ x : Vec F S512x256 .f32, k1_pay4 (numAt V c t ht) (rcpAt V c t ht) (w2At V c t ht) x
      = k1_pay4 (numAt V c t' h') (rcpAt V c t' h') (w2At V c t' h') x := by rintro _ rfl _ _; rfl
  have old : View.ld sc (Rect.unit (s := S2048x256) (k1_off12 (grid1.coords t)) S512x256.size
      (k1_off12_inb _ ((cond1_iff t).mpr ht) ((cond3_iff t).mpr h4))) = accV V c ⟨t.val % 4, Nat.mod_lt _ (by decide)⟩ h := by
    funext z
    have hz0 : (z 0).val < 512 := (z 0).isLt
    have o0 : k1_off12 (grid1.coords t) 0 = 512 * (t.val % 4) := by rw [off12_eq]; rfl
    have o1 : k1_off12 (grid1.coords t) 1 = 0 := by rw [off12_eq]; rfl
    set y : S2048x256.Idx := (Rect.unit (s := S2048x256) (k1_off12 (grid1.coords t)) S512x256.size
      (k1_off12_inb _ ((cond1_iff t).mpr ht) ((cond3_iff t).mpr h4))).emb z with hydef
    have y0 : (y 0).val = 512 * (t.val % 4) + (z 0).val := by
      show k1_off12 (grid1.coords t) 0 + 1 * (z 0).val = _; rw [o0]; omega
    have y1 : (y 1).val = (z 1).val := by
      show k1_off12 (grid1.coords t) 1 + 1 * (z 1).val = _; rw [o1]; omega
    show sc y = _
    rw [hg y (by omega)]
    unfold acc
    have e1 : blkOf y = ⟨t.val % 4, Nat.mod_lt _ (by decide)⟩ := Fin.ext (by show (y 0).val / 512 = t.val % 4; omega)
    have e2 : (min t.val 32 - 1 - (blkOf y).val) / 4 = h := by rw [e1]; show (min t.val 32 - 1 - t.val % 4) / 4 = h; omega
    rw [e2, e1]
    refine congrArg _ (funext fun a => Fin.ext ?_)
    fin_cases a
    · show (y 0).val % 512 = (z 0).val; omega
    · exact y1
  refine (congrArg (k1_pay4 (numAt V c t ht) (rcpAt V c t ht) (w2At V c t ht)) old).trans ?_
  rw [accV, dif_pos h8]
  exact key (pt (h + 1) _ h8) (Fin.ext (by show 4 * (h + 1) + t.val % 4 = t.val; omega)) (pt_lt _ _ _) _

/-! ## The proof data -/

/-- The staging buffers of the first launch, at anything. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- Between points `n - 1` and `n`: the accumulator good, the scratch buffers of layer two filled after point 32. -/
def inv (c : Dev nD) (n : ℕ) : sProp 𝕄 :=
  iprop(rest c ∗ (∃ r, prngReg c r)
    ∗ (∃ sc, ⌜Good V c n sc⌝ ∗ owns (c : Thread nD τ) (Memref.whole cc1_scratch0) fullShare sc)
    ∗ (∃ x, ⌜33 ≤ n → x = sd2End V c⌝ ∗ owns (c : Thread nD τ) (Memref.whole cc1_scratch1) fullShare x)
    ∗ (∃ x, ⌜33 ≤ n → x = whbEnd V c⌝ ∗ owns (c : Thread nD τ) (Memref.whole cc1_scratch2) fullShare x))

/-- What the launch's body keeps: each input its block, each output what its last point left in it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => att1At V c (down t) (down_lt t)
    | ⟨7, _⟩ => att2At V c (up t) (le_up t)
    | ⟨8, _⟩ => out2At V c (up t) (le_up t)
  Φ n := inv V c n.val
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = att1At V c (down t) (down_lt t) := by dsimp only [dat]
theorem after1_7 (c : Dev nD) (t : Fin cfg1.N) : (dat V c).after 7 t = att2At V c (up t) (le_up t) := by dsimp only [dat]
theorem after1_8 (c : Dev nD) (t : Fin cfg1.N) : (dat V c).after 8 t = out2At V c (up t) (le_up t) := by dsimp only [dat]

/-- Each input's buffer holds its block at every point, fetched there or not. -/
theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat V c).before 5 t d = iblk V c 5 t :=
  ((dat V c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)

theorem down_of_lt (t : Fin cfg1.N) (h : t.val < 32) : down t = t := Fin.ext (by show min t.val 31 = t.val; omega)
theorem up_of_le (t : Fin cfg1.N) (h : 32 ≤ t.val) : up t = t := Fin.ext (by show max t.val 32 = t.val; omega)

/-- The last point finds in the layer-one attention window what the last point of layer one left there. -/
theorem before1_6_last (c : Dev nD) (t : Fin cfg1.N) (ht : t.val = 35) (d) : (dat V c).before 6 t d = (dat V c).after 6 t := by
  have hfresh : ∀ n : ℕ, n ≤ cfg1.N → cfg1.fresh 6 n = decide (n < 32) ∨ n = 36 := by
    intro n hn
    by_cases h36 : n = 36
    · exact .inr h36
    refine .inl ((cfg1.fresh_tab 6 (fun n => decide (n < 32) || decide (n = 36)) rfl (fun t => ?_) n hn).trans (by simp [h36]))
    rw [flush6, idle6]; revert t; decide +kernel
  have hN : cfg1.N = 36 := rfl
  have key := (dat V c).before_out_traj 6 rfl (fun _ _ => rfl) (fun t h0 hi hf => by
    have h32 : 32 ≤ t.val := by rw [idle6] at hi; exact of_decide_eq_true hi
    have h33 : t.val ≠ 32 ∨ t.val = 32 := by omega
    rw [after1_6, after1_6]
    have e : down t = down ⟨t.val - 1, by omega⟩ := Fin.ext (by show min t.val 31 = min (t.val - 1) 31; omega)
    have gen : ∀ (a b : Fin cfg1.N) (ha : a.val < 32) (hb : b.val < 32), a = b → att1At V c a ha = att1At V c b hb := by rintro a _ _ _ rfl; rfl
    exact gen _ _ _ _ e) t.val t rfl d
  have hf : cfg1.fresh 6 t.val = false := by
    rcases hfresh t.val (le_of_lt t.isLt) with h | h
    · rw [h, ht]; rfl
    · omega
  rw [key, hf, if_neg Bool.false_ne_true, after1_6, after1_6]
  have e : down ⟨t.val - 1, by omega⟩ = down t := Fin.ext (by show min (t.val - 1) 31 = min t.val 31; omega)
  have gen : ∀ (a b : Fin cfg1.N) (ha : a.val < 32) (hb : b.val < 32), a = b → att1At V c a ha = att1At V c b hb := by rintro a _ _ _ rfl; rfl
  exact gen _ _ _ _ e

theorem after1_6_of (c : Dev nD) (t : Fin cfg1.N) (h : t.val < 32) : (dat V c).after 6 t = att1At V c t h := by
  rw [after1_6]
  have gen : ∀ (a b : Fin cfg1.N) (ha : a.val < 32) (hb : b.val < 32), a = b → att1At V c a ha = att1At V c b hb := by rintro a _ _ _ rfl; rfl
  exact gen _ _ _ _ (down_of_lt t h)
theorem after1_7_of (c : Dev nD) (t : Fin cfg1.N) (h : 32 ≤ t.val) : (dat V c).after 7 t = att2At V c t h := by
  rw [after1_7]
  have gen : ∀ (a b : Fin cfg1.N) (ha : 32 ≤ a.val) (hb : 32 ≤ b.val), a = b → att2At V c a ha = att2At V c b hb := by rintro a _ _ _ rfl; rfl
  exact gen _ _ _ _ (up_of_le t h)
theorem after1_8_of (c : Dev nD) (t : Fin cfg1.N) (h : 32 ≤ t.val) : (dat V c).after 8 t = out2At V c t h := by
  rw [after1_8]
  have gen : ∀ (a b : Fin cfg1.N) (ha : 32 ≤ a.val) (hb : 32 ≤ b.val), a = b → out2At V c a ha = out2At V c b hb := by rintro a _ _ _ rfl; rfl
  exact gen _ _ _ _ (up_of_le t h)

/-- A window's buffer after a point that is not idle for it. -/
theorem leaves_live (c : Dev nD) (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]
/-- A window's buffer after an idle point that writes it back. -/
theorem leaves_flush (c : Dev nD) (w : Fin cfg1.W) (t : Fin cfg1.N) (h : cfg1.idle w (cfg1.grid.coords t) = true) (hf : (cfg1.win w).flush t = true) :
    (dat V c).leavesExact w t = owns (c : Thread nD τ) ((cfg1.win w).stage (cfg1.slots t w)) fullShare ((dat V c).after w t) := by
  unfold Dat.leavesExact; rw [h, hf]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ (dat V c).leavesExact 6 t
    ∗ (dat V c).leavesExact 7 t
    ∗ (dat V c).leavesExact 8 t)

/-- The body at a point of head 0. -/
theorem body_first (c : Dev nD) (t : Fin cfg1.N) (ht : t.val < 4) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    show (dat V c).Φ t.succ = inv V c (t.val + 1) from rfl, show (dat V c).Φ t.castSucc = inv V c t.val from rfl,
    after1_0, after1_1, after1_2, after1_3, after1_4, after1_5]
  rw [leaves_live V c 6 t (by rw [idle6]; exact decide_eq_false (by omega)),
    Dat.leavesExact_idle _ 7 t (by rw [idle7]; exact decide_eq_true (by omega)) (by rw [flush7]; exact decide_eq_false (by omega)),
    Dat.leavesExact_idle _ 8 t (by rw [idle8]; exact decide_eq_true (by omega)) (by rw [flush8]; exact decide_eq_false (by omega)),
    after1_6_of V c t (by omega)]
  unfold inv
  iintro ⟨⟨HR, HP, ⟨%sc, %hg, HS⟩, ⟨%x1, -, HS1⟩, ⟨%x2, -, HS2⟩⟩, Ho, ⟨%d0, H0⟩, ⟨%d1, H1⟩, ⟨%d2, H2⟩, ⟨%d3, H3⟩, ⟨%d4, H4⟩, ⟨%d5, H5⟩, ⟨%d6, H6⟩, H7, H8⟩
  iapply (sound_first c Set.univ (grid1.coords t) _ _ _ _ _ _ _ _ _ _ _ _ _ _ _ _ _ _ _ _ _ _ _ _ ((cond1_iff t).mpr (by omega)) ((cond2_iff t).mpr ht) (mt (cond3_iff t).mp (by omega)) (mt (cond4_iff t).mp (by omega)) (iblk V c 0 t) (iblk V c 1 t) (iblk V c 2 t) (iblk V c 3 t) sc _)
  isplitl [H0]; · iexact H0
  isplitl [H1]; · iexact H1
  isplitl [H2]; · iexact H2
  isplitl [H3]; · iexact H3
  isplitl [H6]; · iexists _; iexact H6
  isplitl [HS]; · iexact HS
  iintro ⟨H0, H1, H2, H3, H6, HS⟩
  isplitl [HR HP HS HS1 HS2]
  · isplitl [HR]; · iexact HR
    isplitl [HP]; · iexact HP
    isplitl [HS]
    · iexists _; isplitr; · ipureintro; exact good_first V c t ht sc hg
      iexact HS
    isplitl [HS1]
    · iexists x1; isplitr; · ipureintro; intro h; omega
      iexact HS1
    iexists x2; isplitr; · ipureintro; intro h; omega
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a point of a later head. -/
theorem body_later (c : Dev nD) (t : Fin cfg1.N) (h4 : 4 ≤ t.val) (ht : t.val < 32) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    show (dat V c).Φ t.succ = inv V c (t.val + 1) from rfl, show (dat V c).Φ t.castSucc = inv V c t.val from rfl,
    after1_0, after1_1, after1_2, after1_3, after1_4, after1_5]
  rw [leaves_live V c 6 t (by rw [idle6]; exact decide_eq_false (by omega)),
    Dat.leavesExact_idle _ 7 t (by rw [idle7]; exact decide_eq_true (by omega)) (by rw [flush7]; exact decide_eq_false (by omega)),
    Dat.leavesExact_idle _ 8 t (by rw [idle8]; exact decide_eq_true (by omega)) (by rw [flush8]; exact decide_eq_false (by omega)),
    after1_6_of V c t (by omega)]
  unfold inv
  iintro ⟨⟨HR, HP, ⟨%sc, %hg, HS⟩, ⟨%x1, -, HS1⟩, ⟨%x2, -, HS2⟩⟩, Ho, ⟨%d0, H0⟩, ⟨%d1, H1⟩, ⟨%d2, H2⟩, ⟨%d3, H3⟩, ⟨%d4, H4⟩, ⟨%d5, H5⟩, ⟨%d6, H6⟩, H7, H8⟩
  iapply (sound_later c Set.univ (grid1.coords t) _ _ _ _ _ _ _ _ _ _ _ _ _ _ _ _ _ _ _ _ _ _ _ _ ((cond1_iff t).mpr ht) (mt (cond2_iff t).mp (by omega)) ((cond3_iff t).mpr h4) (mt (cond4_iff t).mp (by omega)) (iblk V c 0 t) (iblk V c 1 t) (iblk V c 2 t) (iblk V c 3 t) sc _)
  isplitl [H0]; · iexact H0
  isplitl [H1]; · iexact H1
  isplitl [H2]; · iexact H2
  isplitl [H3]; · iexact H3
  isplitl [H6]; · iexists _; iexact H6
  isplitl [HS]; · iexact HS
  iintro ⟨H0, H1, H2, H3, H6, HS⟩
  isplitl [HR HP HS HS1 HS2]
  · isplitl [HR]; · iexact HR
    isplitl [HP]; · iexact HP
    isplitl [HS]
    · iexists _; isplitr; · ipureintro; exact good_later V c t h4 ht sc hg
      iexact HS
    isplitl [HS1]
    · iexists x1; isplitr; · ipureintro; intro h; omega
      iexact HS1
    iexists x2; isplitr; · ipureintro; intro h; omega
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- At a point of layer two the layer-one attention window's buffer is left as it was found. -/
theorem leaves6 (c : Dev nD) (t : Fin cfg1.N) (ht : 32 ≤ t.val) :
    (dat V c).leavesExact 6 t = iprop(∃ d, owns (c : Thread nD τ) (st1_6 t) fullShare ((dat V c).before 6 t d)) := by
  by_cases h35 : t.val = 35
  · rw [leaves_flush V c 6 t (by rw [idle6]; exact decide_eq_true (by omega)) (by rw [flush6, h35]; rfl)]
    have h₁ : owns (c : Thread nD τ) (st1_6 t) fullShare ((dat V c).after 6 t)
        ⊢ (iprop(∃ d, owns (c : Thread nD τ) (st1_6 t) fullShare ((dat V c).before 6 t d)) : sProp 𝕄) := by
      iintro H; iexists ((dat V c).after 6 t); rw [before1_6_last V c t h35]; iexact H
    have h₂ : (iprop(∃ d, owns (c : Thread nD τ) (st1_6 t) fullShare ((dat V c).before 6 t d)) : sProp 𝕄)
        ⊢ owns (c : Thread nD τ) (st1_6 t) fullShare ((dat V c).after 6 t) := by
      iintro ⟨%d, H⟩; rw [before1_6_last V c t h35]; iexact H
    exact Idealize.SL.BI.Entails.antisymm h₁ h₂
  · have hN : t.val < 36 := t.isLt
    exact Dat.leavesExact_idle _ 6 t (by rw [idle6]; exact decide_eq_true (by omega)) (by rw [flush6]; simp; omega)

/-- The body at the first point of layer two. -/
theorem body_start (c : Dev nD) (t : Fin cfg1.N) (ht : t.val = 32) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    show (dat V c).Φ t.succ = inv V c (t.val + 1) from rfl, show (dat V c).Φ t.castSucc = inv V c t.val from rfl,
    after1_0, after1_1, after1_2, after1_3, after1_4, after1_5]
  rw [leaves_live V c 7 t (by rw [idle7]; exact decide_eq_false (by omega)),
    leaves_live V c 8 t (by rw [idle8]; exact decide_eq_false (by omega)),
    after1_7_of V c t (by omega), after1_8_of V c t (by omega)]
  rw [leaves6 V c t (by omega)]
  unfold inv

  iintro ⟨⟨HR, HP, ⟨%sc, %hg, HS⟩, ⟨%x1, -, HS1⟩, ⟨%x2, -, HS2⟩⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
  have hsc : sc = accEnd V c := (good_end V c t.val (by omega) sc).mp hg
  subst hsc
  have e32 : t = ⟨32, by decide⟩ := Fin.ext ht
  have esd : k1_pay26 (iblk V c 4 t) (iblk V c 5 t) (accEnd V c) = sd2End V c := by rw [e32]; rfl
  have key := sound_start c Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6))
    (st1_7 t) (hstage1_7 ((cfg1.slots t 7).cast nbuf1_7)) (st1_8 t) (hstage1_8 ((cfg1.slots t 8).cast nbuf1_8)) (Memref.whole cc1_scratch0) (Memref.isWhole_whole _) (Memref.whole cc1_scratch1) (Memref.isWhole_whole _)
    (Memref.whole cc1_scratch2) (Memref.isWhole_whole _) (mt (cond1_iff t).mp (by omega)) ((cond4_iff t).mpr (by omega)) ((first_iff t).mpr (by omega)) (iblk V c 0 t) (iblk V c 4 t) (iblk V c 5 t) (accEnd V c)
  rw [esd] at key
  iapply (key _)
  isplitl [H0]; · iexact H0
  isplitl [H4]; · iexact H4
  isplitl [H5]; · iexact H5
  isplitl [H7]; · iexists _; iexact H7
  isplitl [H8]; · iexists _; iexact H8
  isplitl [HS]; · iexact HS
  isplitl [HS1]; · iexists _; iexact HS1
  isplitl [HS2]; · iexists _; iexact HS2
  iintro ⟨H0, H4, H5, H7, H8, HS, HS1, HS2⟩
  isplitl [HR HP HS HS1 HS2]
  · isplitl [HR]; · iexact HR
    isplitl [HP]; · iexact HP
    isplitl [HS]
    · iexists _; isplitr; · ipureintro; exact (good_end V c (t.val + 1) (by omega) _).mpr rfl
      iexact HS
    isplitl [HS1]
    · iexists _; isplitr; · ipureintro; intro _; rfl
      iexact HS1
    iexists _; isplitr; · ipureintro; intro _; rfl
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a later point of layer two. -/
theorem body_rest (c : Dev nD) (t : Fin cfg1.N) (ht : 33 ≤ t.val) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    show (dat V c).Φ t.succ = inv V c (t.val + 1) from rfl, show (dat V c).Φ t.castSucc = inv V c t.val from rfl,
    after1_0, after1_1, after1_2, after1_3, after1_4, after1_5]
  rw [leaves_live V c 7 t (by rw [idle7]; exact decide_eq_false (by omega)),
    leaves_live V c 8 t (by rw [idle8]; exact decide_eq_false (by omega)),
    after1_7_of V c t (by omega), after1_8_of V c t (by omega)]
  rw [leaves6 V c t (by omega)]
  unfold inv

  have hN : t.val < 36 := t.isLt
  iintro ⟨⟨HR, HP, ⟨%sc, %hg, HS⟩, ⟨%x1, %hx1, HS1⟩, ⟨%x2, %hx2, HS2⟩⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
  have hsc : sc = accEnd V c := (good_end V c t.val (by omega) sc).mp hg
  have e1 : x1 = sd2End V c := hx1 ht
  have e2 : x2 = whbEnd V c := hx2 ht
  subst hsc e1 e2
  iapply (sound_rest c Set.univ (grid1.coords t) _ _ _ _ _ _ _ _ _ _ _ _ _ _ _ _ _ _ _ _ _ _ _ _ (mt (cond1_iff t).mp (by omega)) ((cond4_iff t).mpr (by omega)) (mt (first_iff t).mp (by omega)) (iblk V c 0 t) (sd2End V c) (whbEnd V c) _)
  isplitl [H0]; · iexact H0
  isplitl [H7]; · iexists _; iexact H7
  isplitl [H8]; · iexists _; iexact H8
  isplitl [HS1]; · iexact HS1
  isplitl [HS2]; · iexact HS2
  iintro ⟨H0, H7, H8, HS1, HS2⟩
  isplitl [HR HP HS HS1 HS2]
  · isplitl [HR]; · iexact HR
    isplitl [HP]; · iexact HP
    isplitl [HS]
    · iexists _; isplitr; · ipureintro; exact (good_end V c (t.val + 1) (by omega) _).mpr rfl
      iexact HS
    isplitl [HS1]
    · iexists _; isplitr; · ipureintro; intro _; rfl
      iexact HS1
    iexists _; isplitr; · ipureintro; intro _; rfl
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg1.N) :
    bodyPre V c t ⊢ wp frame (wpE (defs₀ (F := F)) Variants.none c none) Set.univ (bodyAt1 t) (fun _ => bodyPost V c t) := by
  by_cases h1 : t.val < 4
  · exact body_first V c t h1
  by_cases h2 : t.val < 32
  · exact body_later V c t (by omega) h2
  by_cases h3 : t.val = 32
  · exact body_start V c t h3
  exact body_rest V c t (by omega)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body keeps the proof data, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Points

end
-- ==== Proof.Run.lean ====
/- The whole program run, at any float values: every weakly fair execution ends, every argument is as it was, every
   semaphore counter is zero, and the three results are what the second launch's write-backs leave
   (`Points.dat`'s account of its output windows), read from what the first launch left. -/
module

public import proofs.«01_k».proof.Proof.First
public import proofs.«01_k».proof.Proof.Points
public import proofs.«01_k».proof.Proof.Gen.KernelIdeal.Regions
public import Idealize.ShloMosaic.Lib.Pipeline.FrameTail
public import Idealize.ShloMosaic.Lib.Pipeline.RegionArrays
public import Idealize.ShloMosaic.Lib.StableHlo.RunHlo

@[expose] public section

noncomputable section

namespace Cert.KernelIdeal.Run

open Cert.KernelIdeal.Gen
open Cert.KernelIdeal.First (Entry)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation afterRegion ucRefs)

variable {F : FTy → Type} [FloatOps F] [Named F]

local notation "𝕄" => MT nD τ sig Unit (Elt F) ℕ (UR sig nD τ) ℕ

/-- A family of contents of a core's buffers. -/
abbrev Vals (F : FTy → Type) := Dev nD → Valuation τ sig (Elt F)

/-- Such a family as a launch's entry contents. -/
abbrev entry (W : Vals F) : Entry F := fun c b => W c (Proc.devRef .tc b)

variable (m : (ℓ : Loc nD τ sig) → Buf (Elt F) ℓ)

/-- The buffers at the start, -/
abbrev W0 : Vals F := fun c b => m (c, b)
/-- after the first launch, -/
def W1 : Vals F := fun c => afterRegion (First.dat (entry (W0 m)) c) (W0 m c)
/-- after the two broadcasts, -/
def W2 : Vals F := fun c => StableHlo.after hostOps1 (W1 m c)
/-- and after the second launch. -/
def W3 : Vals F := fun c => afterRegion (Points.dat (entry (W2 m)) c) (W2 m c)

/-- The two launches' proof data. -/
def dats : (p : Fin 2) → (c : Dev nD) → Dat τ (Elt F) Unit ℕ (UR sig nD τ) ℕ (cfgs p) c
  | 0 => First.dat (entry (W0 m))
  | 1 => Points.dat (entry (W2 m))

/-- What a core holds beside its buffers between two steps: its random-number register, and nothing owed. -/
abbrev side (c : Dev nD) : sProp 𝕄 := iprop((∃ r, prngReg c r) ∗ ∃ W, owes (c : Thread nD τ) (0 : CellTallies nD τ sig Unit) W)

abbrev noLev : GSem nD τ sig → Finset Unit := fun _ => ∅
abbrev lev0 : GSem nD τ sig → Unit → ℕ := fun _ _ => 0

set_option backward.isDefEq.respectTransparency.types false in
/-- One launch as a step between two families of contents: entered at `Wa`, left at what its write-backs make of it. -/
def region (D : (p : Fin 2) → (c : Dev nD) → Dat τ (Elt F) Unit ℕ (UR sig nD τ) ℕ (cfgs p) c) (p : Fin 2)
    (kit : Pipeline.LaunchFacts (nD := nD) (τ := τ) cfgs p) (Wa : Vals F)
    (hbody : ∀ c, BodyObligation (D p c) defs₀ Variants.none () Set.univ)
    (howed : ∀ c t, (D p c).owed t = 0) (hrec : ∀ c, (D p c).recorded 0 = Set.univ) (hshare : ∀ c w, (D p c).q w = fullShare)
    (hA : ∀ c w, (D p c).A w = entry Wa c (Pipeline.arrRef (cfgs p).spec w))
    (hin : ∀ c, iprop((∃ r, prngReg c r) ∗ Pipeline.scopedRest (cfgs p).spec c) ⊢ ((D p c).Φ 0 : sProp 𝕄))
    (hout : ∀ c, ((D p c).Φ (Fin.last _) : sProp 𝕄) ⊢ iprop((∃ r, prngReg c r) ∗ Pipeline.scopedRest (cfgs p).spec c)) :
    RegionSeg (pcfgs (F := F)) adm D () defs₀ Variants.none noLev lev0 p where
  win := kit.win.to₀
  block_pos := kit.block_pos
  stage_whole := kit.stage_whole
  K := PEmpty
  osem := fun k => k.elim
  ho := Pipeline.OwnSemFacts.none _
  hbody := fun c => (hbody c).loose
  hwaits := Pipeline.hwaits_of_owed_zero _ _ _ _ noLev lev0 p howed
  pre := fun c => iprop(StableHlo.held (c : Thread nD τ) (ucRefs τ sig) (Wa c) ∗ side c)
  post := fun c => iprop(StableHlo.held (c : Thread nD τ) (ucRefs τ sig) (afterRegion (D p c) (Wa c)) ∗ side c)
  X := fun c => iprop(∃ r, prngReg c r)
  Y := fun c => iprop(∃ r, prngReg c r)
  Z := fun c => Pipeline.unscopedRest (Ix := Unit) (Name := ℕ) (U := UR sig nD τ) (Lvl := ℕ) (cfgs p).spec c (entry Wa c)
  hentry := fun c => by
    rw [Pipeline.ownSems0_none,
      show StableHlo.held (c : Thread nD τ) (ucRefs τ sig) (Wa c) = unscopedBufs c (entry Wa c)
        from (Pipeline.unscopedBufs_held (Ix := Unit) (Name := ℕ) (U := UR sig nD τ) (Lvl := ℕ) c (Wa c)).symm]
    have hsplit := Pipeline.arrays_of_unscopedBufs (p := p) (pcfgs (F := F)) adm D kit.win kit.arr_whole c
      ((D p c).share_full (hshare c)) (entry Wa c) (fun w => hA c w)
    iintro ⟨⟨Hub, Hp, HO⟩, -, -⟩
    ihave H := hsplit $$ Hub
    icases H with ⟨Ha, Hrest⟩
    imodintro
    isplitl [Ha]; · iexact Ha
    isplitr
    · rw [Pipeline.prefHeld_of_none _ rfl]
      iempintro
    isplitl [HO]
    · unfold Dat.owesAt Pipeline.owesWithin Dat.bound
      rw [howed c 0, hrec c]
      icases HO with ⟨%W, HO⟩
      iexists W; isplitr; · ipureintro; exact fun _ _ => Or.inl trivial
      iexact HO
    isplitl [Hp]; · iexact Hp
    iexact Hrest
  hin := fun c => (show _ ⊢ iprop((∃ r, prngReg c r) ∗ Pipeline.scopedRest (cfgs p).spec c) from by
    iintro ⟨Hp, -, Hr⟩
    isplitl [Hp] <;> iassumption).trans (hin c)
  hout := fun c => (hout c).trans (by
    rw [Pipeline.ownSems0_none]
    iintro ⟨Hp, Hr⟩
    isplitl [Hp]; · iexact Hp
    isplitr; · iempintro
    iexact Hr)
  hexit := fun c => by
    have hjoin := Pipeline.unscopedBufs_of_arrays (p := p) (pcfgs (F := F)) adm (Ix := Unit) (Name := ℕ) (U := UR sig nD τ) (Lvl := ℕ)
      kit.win kit.arr_whole c D ((D p c).share_full (hshare c))
      (entry Wa c) (fun b => afterRegion (D p c) (Wa c) (Proc.devRef .tc b)) ((D p c).arrAt · (cfgs p).N)
      (fun w => (Pipeline.afterRegion_arr (D p c) (Wa c) kit.win.arr_inj w).symm)
      (fun b hb => Pipeline.afterRegion_of_not_arr (D p c) (Wa c)
        fun w h => hb (h ▸ Finset.mem_image.mpr ⟨w, Finset.mem_univ _, rfl⟩))
    rw [show StableHlo.held (c : Thread nD τ) (ucRefs τ sig) (afterRegion (D p c) (Wa c))
        = unscopedBufs c (fun b => afterRegion (D p c) (Wa c) (Proc.devRef .tc b))
        from (Pipeline.unscopedBufs_held (Ix := Unit) (Name := ℕ) (U := UR sig nD τ) (Lvl := ℕ) c _).symm]
    iintro ⟨Ha, HO, Hp, Hrest⟩
    imodintro
    isplitl [Ha Hrest]
    · iapply hjoin; isplitl [Ha] <;> iassumption
    isplitl [Hp]; · iexact Hp
    unfold Dat.owesAt Pipeline.owesWithin
    rw [howed c (Fin.last _)]
    icases HO with ⟨%W, -, HO⟩; iexists W; iexact HO

/-- The first launch. -/
def reg0 : RegionSeg (pcfgs (F := F)) adm (dats m) () defs₀ Variants.none noLev lev0 0 :=
  region (dats m) 0 launch0 (W0 m) (First.body_obligation _) (fun _ _ => rfl) (fun _ => rfl) (fun _ _ => rfl) (First.A_eq _)
    (fun c => (show iprop((∃ r, prngReg c r) ∗ Pipeline.scopedRest spec0 c) ⊢ (Pipeline.ΦA spec0 c : sProp 𝕄) from by
      unfold Pipeline.ΦA; iintro ⟨Hp, Hr⟩; isplitl [Hr] <;> iassumption))
    (fun c => (show (Pipeline.ΦA spec0 c : sProp 𝕄) ⊢ iprop((∃ r, prngReg c r) ∗ Pipeline.scopedRest spec0 c) from by
      unfold Pipeline.ΦA; iintro ⟨Hr, Hp⟩; isplitl [Hp] <;> iassumption))

/-- The second launch's invariant starts from its scratch buffers at anything, -/
theorem inv_start (V : Entry F) (c : Dev nD) :
    iprop((∃ r, prngReg c r) ∗ Pipeline.scopedRest spec1 c) ⊢ (Points.inv V c 0 : sProp 𝕄) := by
  rw [scopedRest1_eq]
  unfold Points.inv Points.rest
  iintro ⟨Hp, ⟨H1, H2, H3, H4, H5, H6, H7, H8, H9, ⟨%a, Ha⟩, ⟨%b, Hb⟩, ⟨%d, Hd⟩⟩⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hp]; · iexact Hp
  isplitl [Ha]
  · iexists a; rw [owns_whole]
    isplitr; · ipureintro; exact Points.good_zero V c a
    iexact Ha
  isplitl [Hb]
  · iexists b; rw [owns_whole]
    isplitr; · ipureintro; intro h; omega
    iexact Hb
  iexists d; rw [owns_whole]
  isplitr; · ipureintro; intro h; omega
  iexact Hd

/-- and hands them back at the end. -/
theorem inv_end (V : Entry F) (c : Dev nD) (n : ℕ) :
    (Points.inv V c n : sProp 𝕄) ⊢ iprop((∃ r, prngReg c r) ∗ Pipeline.scopedRest spec1 c) := by
  rw [scopedRest1_eq]
  unfold Points.inv Points.rest
  iintro ⟨⟨H1, H2, H3, H4, H5, H6, H7, H8, H9⟩, Hp, ⟨%a, -, Ha⟩, ⟨%b, -, Hb⟩, ⟨%d, -, Hd⟩⟩
  isplitl [Hp]; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexists a; rw [← owns_whole]; iexact Ha
  isplitl [Hb]; · iexists b; rw [← owns_whole]; iexact Hb
  iexists d; rw [← owns_whole]; iexact Hd

/-- The second launch. -/
def reg1 : RegionSeg (pcfgs (F := F)) adm (dats m) () defs₀ Variants.none noLev lev0 1 :=
  region (dats m) 1 launch1 (W2 m) (Points.body_obligation _) (fun _ _ => rfl) (fun _ => rfl) (fun _ _ => rfl) (Points.A_eq _)
    (inv_start _) (fun c => inv_end _ c _)

/-- The two broadcasts between the launches. -/
def host1 : HostSeg (Ix := Unit) (Name := ℕ) (U := UR sig nD τ) (Lvl := ℕ) (pcfgs (F := F)) defs₀ Variants.none noLev lev0 :=
  HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (W1 m) side

/-- THE RUN: every buffer the core keeps ends at `W3`, and every counter at zero. -/
theorem run (ρ : Dev nD → PrngReg) :
    θ_run defs (onTc (τ := τ) (main (F := F))) ⟨m, fun _ => 0, ρ⟩ (fun r =>
      (∀ c : Dev nD, ∀ b ∈ ucRefs τ sig, r.2.mem ((c : Thread nD τ).1, b) = W3 m c b) ∧ r.2.sem = fun _ => 0) := by
  refine Pipeline.θ_run_regions_kit_dev_sems (pcfgs (F := F)) adm (dats m) () cellOf_inj emb₁ defs₀ Variants.none noLev lev0 m ρ main
    (fun _ => [.region (reg0 m), .host (host1 m), .region (reg1 m)])
    (fun c Q => by
      rw [main_segs adm (dats m) () Variants.none noLev lev0 (host1 m) (reg0 m) (reg1 m) rfl c])
    (fun c => by simp only [Seg.pipes_host, Seg.pipes_region, Seg.pipes_nil]; decide)
    (O₀ := 0) (fun _ _ => rfl) (fun _ => iprop(emp))
    (initOf (Pipeline.cells cfgs cellOf_inj) (Pipeline.launchToks cfgs cellOf_inj)) ?_
    (T₀ := fun c => iprop(StableHlo.held (c : Thread nD τ) (ucRefs τ sig) (W0 m c) ∗ side c))
    (Tₙ := fun c => StableHlo.held (c : Thread nD τ) (ucRefs τ sig) (W3 m c))
    (hch := fun c => ⟨.rfl, .rfl, .rfl, (show iprop(StableHlo.held (c : Thread nD τ) (ucRefs τ sig) (W3 m c) ∗ side c) ⊢ (_ : sProp 𝕄) from by
        iintro ⟨Hh, -, HO⟩
        isplitl [Hh] <;> iassumption)⟩)
    (hinit := ?_) (QY := fun c s => ∀ b ∈ ucRefs τ sig, s.mem ((c : Thread nD τ).1, b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noLev lev0 fun c => ?_
    rw [show unscopedBufs c (fun b => m ((c.tc : Thread nD τ).loc b)) = StableHlo.held (c.tc : Thread nD τ) (ucRefs τ sig) (W0 m c)
        from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (ucRefs τ sig) (fun b => ((c : Thread nD τ).1, b)) (W3 m c) s') $$ [Hh HSI]
    · isplitl [Hh] <;> iassumption
    imodintro; iexact Hr

/-! ## What the last family holds -/

theorem W1_of (c : Dev nD) (b : Ref sig .tc) (h : ∀ w, b ≠ Pipeline.arrRef spec0 w) : W1 m c b = m (c, b) :=
  Pipeline.afterRegion_of_not_arr (First.dat (entry (W0 m)) c) (W0 m c) h

theorem W1_arr (c : Dev nD) (w : Fin cfg0.W) : W1 m c (Pipeline.arrRef spec0 w) = (First.dat (entry (W0 m)) c).arrAt w cfg0.N :=
  Pipeline.afterRegion_arr (First.dat (entry (W0 m)) c) (W0 m c) launch0.win.arr_inj w

theorem W2_of (c : Dev nD) (b : Ref sig .tc) (h : b ∉ hostOps1_W) : W2 m c b = W1 m c b :=
  StableHlo.after_of_writes_sub hostOps1 _ hostOps1_writes h

theorem W3_of (c : Dev nD) (b : Ref sig .tc) (h : ∀ w, b ≠ Pipeline.arrRef spec1 w) : W3 m c b = W2 m c b :=
  Pipeline.afterRegion_of_not_arr (Points.dat (entry (W2 m)) c) (W2 m c) h

theorem W3_arr (c : Dev nD) (w : Fin cfg1.W) : W3 m c (Pipeline.arrRef spec1 w) = (Points.dat (entry (W2 m)) c).arrAt w cfg1.N :=
  Pipeline.afterRegion_arr (Points.dat (entry (W2 m)) c) (W2 m c) launch1.win.arr_inj w

/-- An array a launch only reads is as it was. -/
theorem W1_in (c : Dev nD) (w : Fin cfg0.W) (h : (cfg0.win w).isOut = false) : W1 m c (Pipeline.arrRef spec0 w) = m (c, Pipeline.arrRef spec0 w) :=
  (W1_arr m c w).trans ((Dat.arrAt_in _ w h _).trans (First.A_eq _ c w))

theorem W3_in (c : Dev nD) (w : Fin cfg1.W) (h : (cfg1.win w).isOut = false) : W3 m c (Pipeline.arrRef spec1 w) = W2 m c (Pipeline.arrRef spec1 w) :=
  (W3_arr m c w).trans ((Dat.arrAt_in _ w h _).trans (Points.A_eq _ c w))

/-- The first launch and the broadcasts leave every argument as it was, -/
theorem W2_arg0 (c : Dev nD) : W2 m c main_arg0 = m (c, main_arg0) := (W2_of m c _ (by decide)).trans (W1_in m c 0 rfl)
theorem W2_arg1 (c : Dev nD) : W2 m c main_arg1 = m (c, main_arg1) := (W2_of m c _ (by decide)).trans (W1_of m c _ (by decide))
theorem W2_arg2 (c : Dev nD) : W2 m c main_arg2 = m (c, main_arg2) := (W2_of m c _ (by decide)).trans (W1_in m c 1 rfl)
theorem W2_arg3 (c : Dev nD) : W2 m c main_arg3 = m (c, main_arg3) := (W2_of m c _ (by decide)).trans (W1_in m c 2 rfl)
theorem W2_arg4 (c : Dev nD) : W2 m c main_arg4 = m (c, main_arg4) := (W2_of m c _ (by decide)).trans (W1_in m c 3 rfl)
theorem W2_arg5 (c : Dev nD) : W2 m c main_arg5 = m (c, main_arg5) := (W2_of m c _ (by decide)).trans (W1_of m c _ (by decide))
theorem W2_arg6 (c : Dev nD) : W2 m c main_arg6 = m (c, main_arg6) := (W2_of m c _ (by decide)).trans (W1_of m c _ (by decide))
theorem W2_arg7 (c : Dev nD) : W2 m c main_arg7 = m (c, main_arg7) := (W2_of m c _ (by decide)).trans (W1_of m c _ (by decide))

/-- and so does the second. -/
theorem W3_arg0 (c : Dev nD) : W3 m c main_arg0 = m (c, main_arg0) := (W3_of m c _ (by decide)).trans (W2_arg0 m c)
theorem W3_arg1 (c : Dev nD) : W3 m c main_arg1 = m (c, main_arg1) := (W3_in m c 0 rfl).trans (W2_arg1 m c)
theorem W3_arg2 (c : Dev nD) : W3 m c main_arg2 = m (c, main_arg2) := (W3_of m c _ (by decide)).trans (W2_arg2 m c)
theorem W3_arg3 (c : Dev nD) : W3 m c main_arg3 = m (c, main_arg3) := (W3_of m c _ (by decide)).trans (W2_arg3 m c)
theorem W3_arg4 (c : Dev nD) : W3 m c main_arg4 = m (c, main_arg4) := (W3_of m c _ (by decide)).trans (W2_arg4 m c)
theorem W3_arg5 (c : Dev nD) : W3 m c main_arg5 = m (c, main_arg5) := (W3_in m c 3 rfl).trans (W2_arg5 m c)
theorem W3_arg6 (c : Dev nD) : W3 m c main_arg6 = m (c, main_arg6) := (W3_of m c _ (by decide)).trans (W2_arg6 m c)
theorem W3_arg7 (c : Dev nD) : W3 m c main_arg7 = m (c, main_arg7) := (W3_of m c _ (by decide)).trans (W2_arg7 m c)

/-- THE RUN, READ: the three results and the eight arguments. -/
theorem values (ρ : Dev nD → PrngReg) :
    θ_run defs (onTc (τ := τ) (main (F := F))) ⟨m, fun _ => 0, ρ⟩ (fun r =>
      (∀ c : Dev nD, (r.2.mem ((c.tc : Thread nD τ).loc main_v3_0) = (Points.dat (entry (W2 m)) c).arrAt 6 cfg1.N
        ∧ r.2.mem ((c.tc : Thread nD τ).loc main_v3_1) = (Points.dat (entry (W2 m)) c).arrAt 7 cfg1.N
        ∧ r.2.mem ((c.tc : Thread nD τ).loc main_v3_2) = (Points.dat (entry (W2 m)) c).arrAt 8 cfg1.N)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  θ_run_mono (run m ρ) fun r ⟨h, hz⟩ => ⟨fun c =>
    have e (b : Ref sig .tc) (hb : b.isScoped = false) : r.2.mem ((c.tc : Thread nD τ).loc b) = W3 m c b :=
      h c _ (Pipeline.devRef_mem_ucRefs hb)
    ⟨⟨(e main_v3_0 (by decide)).trans (W3_arr m c 6), (e main_v3_1 (by decide)).trans (W3_arr m c 7), (e main_v3_2 (by decide)).trans (W3_arr m c 8)⟩,
      (e main_arg0 (by decide)).trans (W3_arg0 m c), (e main_arg1 (by decide)).trans (W3_arg1 m c), (e main_arg2 (by decide)).trans (W3_arg2 m c),
      (e main_arg3 (by decide)).trans (W3_arg3 m c), (e main_arg4 (by decide)).trans (W3_arg4 m c), (e main_arg5 (by decide)).trans (W3_arg5 m c),
      (e main_arg6 (by decide)).trans (W3_arg6 m c), (e main_arg7 (by decide)).trans (W3_arg7 m c)⟩, hz⟩

end Cert.KernelIdeal.Run

end
-- ==== Proof.RefRun.lean ====
/- The reference's host operations in order, its run, and what each buffer holds at the end as a function of the buffers it
   was computed from: no buffer is written twice, so the contents at the end satisfy one equation per operation. -/
module

public import proofs.«01_k».proof.Proof.Gen.ReferenceIdeal
public import Idealize.ShloMosaic.Lib.StableHlo.RunRead
public import Idealize.ShloMosaic.Lib.StableHlo.RunHlo

@[expose] public section

set_option maxRecDepth 16384

noncomputable section

namespace Cert.ReferenceIdeal.Run

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The operations, the calls' bodies written out in place. -/
def ops : List (HloOp τ sig (Elt F)) := [
  StableHlo.binary main_arg0 main_arg2 main_v0 ((fun l r => Host.dotGeneral dot_S2048x512_S512x2048_S2048x2048_1_0_0_1_n_n none l r) : (⟨S2048x512, .f32⟩ : BufTy).Contents (Elt F) → (⟨S512x2048, .f32⟩ : BufTy).Contents (Elt F) → (⟨S2048x2048, .f32⟩ : BufTy).Contents (Elt F)),
  StableHlo.reshape main_v0 main_v1 (rfl : (.f32 : EltTy) = .f32) shapeCasts_S2048x2048_S2048x8x256,
  StableHlo.unary main_v1 main_v2 ((transpose S8x2048x256 [1, 0, 2] · transposes_S2048x8x256_S8x2048x256_1_0_2) : (⟨S2048x8x256, .f32⟩ : BufTy).Contents (Elt F) → (⟨S8x2048x256, .f32⟩ : BufTy).Contents (Elt F)),
  StableHlo.binary main_v2 main_arg3 main_v3 ((fun l r => Host.dotGeneral dot_S8x2048x256_S8x256_S8x2048_2_1_1_n_0_0 none l r) : (⟨S8x2048x256, .f32⟩ : BufTy).Contents (Elt F) → (⟨S8x256, .f32⟩ : BufTy).Contents (Elt F) → (⟨S8x2048, .f32⟩ : BufTy).Contents (Elt F)),
  StableHlo.binary main_v2 main_arg4 main_v4 ((fun l r => Host.dotGeneral dot_S8x2048x256_S8x256_S8x2048_2_1_1_n_0_0 none l r) : (⟨S8x2048x256, .f32⟩ : BufTy).Contents (Elt F) → (⟨S8x256, .f32⟩ : BufTy).Contents (Elt F) → (⟨S8x2048, .f32⟩ : BufTy).Contents (Elt F)),
  StableHlo.unary main_v3 main_v5 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v4 main_v6 (broadcastInDim S8x1x2048 ![0, 2] bcast_S8x2048_S8x1x2048_0_2 : (⟨S8x2048, .f32⟩ : BufTy).Contents (Elt F) → (⟨S8x1x2048, .f32⟩ : BufTy).Contents (Elt F)),
  StableHlo.unary main_v5 main_v7 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
  StableHlo.unary main_v6 main_v8 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
  StableHlo.binary main_v7 main_v8 main_v9 (addf : (⟨S8x2048x2048, .f32⟩ : BufTy).Contents (Elt F) → (⟨S8x2048x2048, .f32⟩ : BufTy).Contents (Elt F) → (⟨S8x2048x2048, .f32⟩ : BufTy).Contents (Elt F)),
  StableHlo.nullary main_cst (constant S_ .f32 0x3E4CCCCD#32),
  StableHlo.nullary main_call0_cst (constant S_ .f32 0x00000000#32),
  StableHlo.unary main_call0_cst main_call0_v0 (broadcastInDim S8x2048x2048 ![] bcast_S_S8x2048x2048 : (⟨S_, .f32⟩ : BufTy).Contents (Elt F) → (⟨S8x2048x2048, .f32⟩ : BufTy).Contents (Elt F)),
  StableHlo.binary main_v9 main_call0_v0 main_call0_v1 (cmpf .oge : (⟨S8x2048x2048, .f32⟩ : BufTy).Contents (Elt F) → (⟨S8x2048x2048, .f32⟩ : BufTy).Contents (Elt F) → (⟨S8x2048x2048, .i1⟩ : BufTy).Contents (Elt F)),
  StableHlo.unary main_cst main_call0_v2 (id : (⟨S_, .f32⟩ : BufTy).Contents (Elt F) → (⟨S_, .f32⟩ : BufTy).Contents (Elt F)),
  StableHlo.unary main_call0_v2 main_call0_v3 (broadcastInDim S8x2048x2048 ![] bcast_S_S8x2048x2048 : (⟨S_, .f32⟩ : BufTy).Contents (Elt F) → (⟨S8x2048x2048, .f32⟩ : BufTy).Contents (Elt F)),
  StableHlo.binary main_call0_v3 main_v9 main_call0_v4 (mulf : (⟨S8x2048x2048, .f32⟩ : BufTy).Contents (Elt F) → (⟨S8x2048x2048, .f32⟩ : BufTy).Contents (Elt F) → (⟨S8x2048x2048, .f32⟩ : BufTy).Contents (Elt F)),
  StableHlo.ternary main_call0_v1 main_v9 main_call0_v4 main_v10 (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)),
  StableHlo.nullary main_cst_0 (constant S_ .f32 0x00000000#32),
  StableHlo.unary main_cst_0 main_v11 (broadcastInDim S2048x2048 ![] bcast_S_S2048x2048 : (⟨S_, .f32⟩ : BufTy).Contents (Elt F) → (⟨S2048x2048, .f32⟩ : BufTy).Contents (Elt F)),
  StableHlo.binary main_arg1 main_v11 main_v12 (cmpf .ogt : (⟨S2048x2048, .f32⟩ : BufTy).Contents (Elt F) → (⟨S2048x2048, .f32⟩ : BufTy).Contents (Elt F) → (⟨S2048x2048, .i1⟩ : BufTy).Contents (Elt F)),
  StableHlo.unary main_v12 main_v13 (broadcastInDim S1x2048x2048 ![1, 2] bcast_S2048x2048_S1x2048x2048_1_2 : (⟨S2048x2048, .i1⟩ : BufTy).Contents (Elt F) → (⟨S1x2048x2048, .i1⟩ : BufTy).Contents (Elt F)),
  StableHlo.nullary main_cst_1 (constant S_ .f32 0xFF800000#32),
  StableHlo.unary main_v13 main_call1_v0 (broadcastInDim S8x2048x2048 ![0, 1, 2] bcast_S1x2048x2048_S8x2048x2048_0_1_2 : (⟨S1x2048x2048, .i1⟩ : BufTy).Contents (Elt F) → (⟨S8x2048x2048, .i1⟩ : BufTy).Contents (Elt F)),
  StableHlo.unary main_cst_1 main_call1_v1 (broadcastInDim S8x2048x2048 ![] bcast_S_S8x2048x2048 : (⟨S_, .f32⟩ : BufTy).Contents (Elt F) → (⟨S8x2048x2048, .f32⟩ : BufTy).Contents (Elt F)),
  StableHlo.ternary main_call1_v0 main_v10 main_call1_v1 main_v14 (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)),
  StableHlo.nullary main_cst_2 (constant S_ .f32 0xFF800000#32),
  StableHlo.binary main_v14 main_cst_2 main_v15 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
  StableHlo.nullary main_cst_3 (constant S_ .f32 0xFF800000#32),
  StableHlo.unary main_cst_3 main_v16 (broadcastInDim S8x2048 ![] bcast_S_S8x2048 : (⟨S_, .f32⟩ : BufTy).Contents (Elt F) → (⟨S8x2048, .f32⟩ : BufTy).Contents (Elt F)),
  StableHlo.binary main_v16 main_v15 main_v17 (maximumf : (⟨S8x2048, .f32⟩ : BufTy).Contents (Elt F) → (⟨S8x2048, .f32⟩ : BufTy).Contents (Elt F) → (⟨S8x2048, .f32⟩ : BufTy).Contents (Elt F)),
  StableHlo.unary main_v17 main_v18 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v18 main_v19 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
  StableHlo.binary main_v14 main_v19 main_v20 (subf : (⟨S8x2048x2048, .f32⟩ : BufTy).Contents (Elt F) → (⟨S8x2048x2048, .f32⟩ : BufTy).Contents (Elt F) → (⟨S8x2048x2048, .f32⟩ : BufTy).Contents (Elt F)),
  StableHlo.unary main_v20 main_v21 (Host.exp : (⟨S8x2048x2048, .f32⟩ : BufTy).Contents (Elt F) → (⟨S8x2048x2048, .f32⟩ : BufTy).Contents (Elt F)),
  StableHlo.nullary main_cst_4 (constant S_ .f32 0x00000000#32),
  StableHlo.binary main_v21 main_cst_4 main_v22 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
  StableHlo.unary main_v22 main_v23 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v23 main_v24 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
  StableHlo.binary main_v21 main_v24 main_v25 (Host.divf : (⟨S8x2048x2048, .f32⟩ : BufTy).Contents (Elt F) → (⟨S8x2048x2048, .f32⟩ : BufTy).Contents (Elt F) → (⟨S8x2048x2048, .f32⟩ : BufTy).Contents (Elt F)),
  StableHlo.binary main_v25 main_v2 main_v26 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
  StableHlo.unary main_v26 main_v27 ((transpose S2048x8x256 [1, 0, 2] · transposes_S8x2048x256_S2048x8x256_1_0_2) : (⟨S8x2048x256, .f32⟩ : BufTy).Contents (Elt F) → (⟨S2048x8x256, .f32⟩ : BufTy).Contents (Elt F)),
  StableHlo.reshape main_v27 main_v28 (rfl : (.f32 : EltTy) = .f32) shapeCasts_S2048x8x256_S2048x2048,
  StableHlo.nullary main_call2_cst (constant S_ .f32 0x00000000#32),
  StableHlo.unary main_call2_cst main_call2_v0 (broadcastInDim S2048x2048 ![] bcast_S_S2048x2048 : (⟨S_, .f32⟩ : BufTy).Contents (Elt F) → (⟨S2048x2048, .f32⟩ : BufTy).Contents (Elt F)),
  StableHlo.binary main_v28 main_call2_v0 main_call2_v1 (cmpf .ogt : (⟨S2048x2048, .f32⟩ : BufTy).Contents (Elt F) → (⟨S2048x2048, .f32⟩ : BufTy).Contents (Elt F) → (⟨S2048x2048, .i1⟩ : BufTy).Contents (Elt F)),
  StableHlo.nullary main_call2_cst_0 (constant S_ .f32 0x00000000#32),
  StableHlo.unary main_call2_cst_0 main_call2_v2 (broadcastInDim S2048x2048 ![] bcast_S_S2048x2048 : (⟨S_, .f32⟩ : BufTy).Contents (Elt F) → (⟨S2048x2048, .f32⟩ : BufTy).Contents (Elt F)),
  StableHlo.binary main_v28 main_call2_v2 main_call2_v3 (cmpf .ogt : (⟨S2048x2048, .f32⟩ : BufTy).Contents (Elt F) → (⟨S2048x2048, .f32⟩ : BufTy).Contents (Elt F) → (⟨S2048x2048, .i1⟩ : BufTy).Contents (Elt F)),
  StableHlo.nullary main_call2_cst_1 (constant S_ .f32 0x00000000#32),
  StableHlo.unary main_call2_cst_1 main_call2_call0_v0 (id : (⟨S_, .f32⟩ : BufTy).Contents (Elt F) → (⟨S_, .f32⟩ : BufTy).Contents (Elt F)),
  StableHlo.unary main_call2_call0_v0 main_call2_call0_v1 (broadcastInDim S2048x2048 ![] bcast_S_S2048x2048 : (⟨S_, .f32⟩ : BufTy).Contents (Elt F) → (⟨S2048x2048, .f32⟩ : BufTy).Contents (Elt F)),
  StableHlo.ternary main_call2_v3 main_call2_call0_v1 main_v28 main_call2_v4 (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F)),
  StableHlo.unary main_call2_v4 main_call2_v5 (Host.expm1 : (⟨S2048x2048, .f32⟩ : BufTy).Contents (Elt F) → (⟨S2048x2048, .f32⟩ : BufTy).Contents (Elt F)),
  StableHlo.nullary main_call2_cst_2 (constant S_ .f32 0x3F800000#32),
  StableHlo.unary main_call2_cst_2 main_call2_v6 (broadcastInDim S2048x2048 ![] bcast_S_S2048x2048 : (⟨S_, .f32⟩ : BufTy).Contents (Elt F) → (⟨S2048x2048, .f32⟩ : BufTy).Contents (Elt F)),
  StableHlo.binary main_call2_v6 main_call2_v5 main_call2_v7 (mulf : (⟨S2048x2048, .f32⟩ : BufTy).Contents (Elt F) → (⟨S2048x2048, .f32⟩ : BufTy).Contents (Elt F) → (⟨S2048x2048, .f32⟩ : BufTy).Contents (Elt F)),
  StableHlo.ternary main_call2_v1 main_v28 main_call2_v7 main_v29 (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F)),
  StableHlo.unary main_arg6 main_v30 (broadcastInDim S1x256 ![1] bcast_S256_S1x256_1 : (⟨S256, .f32⟩ : BufTy).Contents (Elt F) → (⟨S1x256, .f32⟩ : BufTy).Contents (Elt F)),
  StableHlo.unary main_arg7 main_v31 (broadcastInDim S1x256 ![1] bcast_S256_S1x256_1 : (⟨S256, .f32⟩ : BufTy).Contents (Elt F) → (⟨S1x256, .f32⟩ : BufTy).Contents (Elt F)),
  StableHlo.binary main_v29 main_arg5 main_v32 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
  StableHlo.reshape main_v32 main_v33 (rfl : (.f32 : EltTy) = .f32) shapeCasts_S2048x256_S2048x1x256,
  StableHlo.unary main_v33 main_v34 ((transpose S1x2048x256 [1, 0, 2] · transposes_S2048x1x256_S1x2048x256_1_0_2) : (⟨S2048x1x256, .f32⟩ : BufTy).Contents (Elt F) → (⟨S1x2048x256, .f32⟩ : BufTy).Contents (Elt F)),
  StableHlo.binary main_v34 main_v30 main_v35 ((fun l r => Host.dotGeneral dot_S1x2048x256_S1x256_S1x2048_2_1_1_n_0_0 none l r) : (⟨S1x2048x256, .f32⟩ : BufTy).Contents (Elt F) → (⟨S1x256, .f32⟩ : BufTy).Contents (Elt F) → (⟨S1x2048, .f32⟩ : BufTy).Contents (Elt F)),
  StableHlo.binary main_v34 main_v31 main_v36 ((fun l r => Host.dotGeneral dot_S1x2048x256_S1x256_S1x2048_2_1_1_n_0_0 none l r) : (⟨S1x2048x256, .f32⟩ : BufTy).Contents (Elt F) → (⟨S1x256, .f32⟩ : BufTy).Contents (Elt F) → (⟨S1x2048, .f32⟩ : BufTy).Contents (Elt F)),
  StableHlo.unary main_v35 main_v37 (broadcastInDim S1x2048x1 ![0, 1] bcast_S1x2048_S1x2048x1_0_1 : (⟨S1x2048, .f32⟩ : BufTy).Contents (Elt F) → (⟨S1x2048x1, .f32⟩ : BufTy).Contents (Elt F)),
  StableHlo.unary main_v36 main_v38 (broadcastInDim S1x1x2048 ![0, 2] bcast_S1x2048_S1x1x2048_0_2 : (⟨S1x2048, .f32⟩ : BufTy).Contents (Elt F) → (⟨S1x1x2048, .f32⟩ : BufTy).Contents (Elt F)),
  StableHlo.unary main_v37 main_v39 (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)),
  StableHlo.unary main_v38 main_v40 (broadcastInDim S1x2048x2048 ![0, 1, 2] bcast_S1x1x2048_S1x2048x2048_0_1_2 : (⟨S1x1x2048, .f32⟩ : BufTy).Contents (Elt F) → (⟨S1x2048x2048, .f32⟩ : BufTy).Contents (Elt F)),
  StableHlo.binary main_v39 main_v40 main_v41 (addf : (⟨S1x2048x2048, .f32⟩ : BufTy).Contents (Elt F) → (⟨S1x2048x2048, .f32⟩ : BufTy).Contents (Elt F) → (⟨S1x2048x2048, .f32⟩ : BufTy).Contents (Elt F)),
  StableHlo.nullary main_cst_5 (constant S_ .f32 0x3E4CCCCD#32),
  StableHlo.nullary main_call3_cst (constant S_ .f32 0x00000000#32),
  StableHlo.unary main_call3_cst main_call3_v0 (broadcastInDim S1x2048x2048 ![] bcast_S_S1x2048x2048 : (⟨S_, .f32⟩ : BufTy).Contents (Elt F) → (⟨S1x2048x2048, .f32⟩ : BufTy).Contents (Elt F)),
  StableHlo.binary main_v41 main_call3_v0 main_call3_v1 (cmpf .oge : (⟨S1x2048x2048, .f32⟩ : BufTy).Contents (Elt F) → (⟨S1x2048x2048, .f32⟩ : BufTy).Contents (Elt F) → (⟨S1x2048x2048, .i1⟩ : BufTy).Contents (Elt F)),
  StableHlo.unary main_cst_5 main_call3_v2 (id : (⟨S_, .f32⟩ : BufTy).Contents (Elt F) → (⟨S_, .f32⟩ : BufTy).Contents (Elt F)),
  StableHlo.unary main_call3_v2 main_call3_v3 (broadcastInDim S1x2048x2048 ![] bcast_S_S1x2048x2048 : (⟨S_, .f32⟩ : BufTy).Contents (Elt F) → (⟨S1x2048x2048, .f32⟩ : BufTy).Contents (Elt F)),
  StableHlo.binary main_call3_v3 main_v41 main_call3_v4 (mulf : (⟨S1x2048x2048, .f32⟩ : BufTy).Contents (Elt F) → (⟨S1x2048x2048, .f32⟩ : BufTy).Contents (Elt F) → (⟨S1x2048x2048, .f32⟩ : BufTy).Contents (Elt F)),
  StableHlo.ternary main_call3_v1 main_v41 main_call3_v4 main_v42 (select : (⟨S1x2048x2048, .i1⟩ : BufTy).Contents (Elt F) → (⟨S1x2048x2048, .f32⟩ : BufTy).Contents (Elt F) → (⟨S1x2048x2048, .f32⟩ : BufTy).Contents (Elt F) → (⟨S1x2048x2048, .f32⟩ : BufTy).Contents (Elt F)),
  StableHlo.nullary main_cst_6 (constant S_ .f32 0x00000000#32),
  StableHlo.unary main_cst_6 main_v43 (broadcastInDim S2048x2048 ![] bcast_S_S2048x2048 : (⟨S_, .f32⟩ : BufTy).Contents (Elt F) → (⟨S2048x2048, .f32⟩ : BufTy).Contents (Elt F)),
  StableHlo.binary main_arg1 main_v43 main_v44 (cmpf .ogt : (⟨S2048x2048, .f32⟩ : BufTy).Contents (Elt F) → (⟨S2048x2048, .f32⟩ : BufTy).Contents (Elt F) → (⟨S2048x2048, .i1⟩ : BufTy).Contents (Elt F)),
  StableHlo.unary main_v44 main_v45 (broadcastInDim S1x2048x2048 ![1, 2] bcast_S2048x2048_S1x2048x2048_1_2 : (⟨S2048x2048, .i1⟩ : BufTy).Contents (Elt F) → (⟨S1x2048x2048, .i1⟩ : BufTy).Contents (Elt F)),
  StableHlo.nullary main_cst_7 (constant S_ .f32 0xFF800000#32),
  StableHlo.unary main_cst_7 main_call4_v0 (broadcastInDim S1x2048x2048 ![] bcast_S_S1x2048x2048 : (⟨S_, .f32⟩ : BufTy).Contents (Elt F) → (⟨S1x2048x2048, .f32⟩ : BufTy).Contents (Elt F)),
  StableHlo.ternary main_v45 main_v42 main_call4_v0 main_v46 (select : (⟨S1x2048x2048, .i1⟩ : BufTy).Contents (Elt F) → (⟨S1x2048x2048, .f32⟩ : BufTy).Contents (Elt F) → (⟨S1x2048x2048, .f32⟩ : BufTy).Contents (Elt F) → (⟨S1x2048x2048, .f32⟩ : BufTy).Contents (Elt F)),
  StableHlo.nullary main_cst_8 (constant S_ .f32 0xFF800000#32),
  StableHlo.binary main_v46 main_cst_8 main_v47 ((fun x v => Host.reduce FloatOps.maximumf x v reducesTo_S1x2048x2048_S1x2048_d2 h_S_) : (⟨S1x2048x2048, .f32⟩ : BufTy).Contents (Elt F) → (⟨S_, .f32⟩ : BufTy).Contents (Elt F) → (⟨S1x2048, .f32⟩ : BufTy).Contents (Elt F)),
  StableHlo.nullary main_cst_9 (constant S_ .f32 0xFF800000#32),
  StableHlo.unary main_cst_9 main_v48 (broadcastInDim S1x2048 ![] bcast_S_S1x2048 : (⟨S_, .f32⟩ : BufTy).Contents (Elt F) → (⟨S1x2048, .f32⟩ : BufTy).Contents (Elt F)),
  StableHlo.binary main_v48 main_v47 main_v49 (maximumf : (⟨S1x2048, .f32⟩ : BufTy).Contents (Elt F) → (⟨S1x2048, .f32⟩ : BufTy).Contents (Elt F) → (⟨S1x2048, .f32⟩ : BufTy).Contents (Elt F)),
  StableHlo.unary main_v49 main_v50 (broadcastInDim S1x2048x1 ![0, 1] bcast_S1x2048_S1x2048x1_0_1 : (⟨S1x2048, .f32⟩ : BufTy).Contents (Elt F) → (⟨S1x2048x1, .f32⟩ : BufTy).Contents (Elt F)),
  StableHlo.unary main_v50 main_v51 (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)),
  StableHlo.binary main_v46 main_v51 main_v52 (subf : (⟨S1x2048x2048, .f32⟩ : BufTy).Contents (Elt F) → (⟨S1x2048x2048, .f32⟩ : BufTy).Contents (Elt F) → (⟨S1x2048x2048, .f32⟩ : BufTy).Contents (Elt F)),
  StableHlo.unary main_v52 main_v53 (Host.exp : (⟨S1x2048x2048, .f32⟩ : BufTy).Contents (Elt F) → (⟨S1x2048x2048, .f32⟩ : BufTy).Contents (Elt F)),
  StableHlo.nullary main_cst_10 (constant S_ .f32 0x00000000#32),
  StableHlo.binary main_v53 main_cst_10 main_v54 ((fun x v => Host.reduceAdd x v reducesTo_S1x2048x2048_S1x2048_d2 h_S_) : (⟨S1x2048x2048, .f32⟩ : BufTy).Contents (Elt F) → (⟨S_, .f32⟩ : BufTy).Contents (Elt F) → (⟨S1x2048, .f32⟩ : BufTy).Contents (Elt F)),
  StableHlo.unary main_v54 main_v55 (broadcastInDim S1x2048x1 ![0, 1] bcast_S1x2048_S1x2048x1_0_1 : (⟨S1x2048, .f32⟩ : BufTy).Contents (Elt F) → (⟨S1x2048x1, .f32⟩ : BufTy).Contents (Elt F)),
  StableHlo.unary main_v55 main_v56 (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)),
  StableHlo.binary main_v53 main_v56 main_v57 (Host.divf : (⟨S1x2048x2048, .f32⟩ : BufTy).Contents (Elt F) → (⟨S1x2048x2048, .f32⟩ : BufTy).Contents (Elt F) → (⟨S1x2048x2048, .f32⟩ : BufTy).Contents (Elt F)),
  StableHlo.binary main_v57 main_v34 main_v58 ((fun l r => Host.dotGeneral dot_S1x2048x2048_S1x2048x256_S1x2048x256_2_1_1_2_0_0 none l r) : (⟨S1x2048x2048, .f32⟩ : BufTy).Contents (Elt F) → (⟨S1x2048x256, .f32⟩ : BufTy).Contents (Elt F) → (⟨S1x2048x256, .f32⟩ : BufTy).Contents (Elt F)),
  StableHlo.nullary main_cst_11 (constant S_ .f32 0x00000000#32),
  StableHlo.binary main_v58 main_cst_11 main_v59 ((fun x v => Host.reduceAdd x v reducesTo_S1x2048x256_S2048x256_d0 h_S_) : (⟨S1x2048x256, .f32⟩ : BufTy).Contents (Elt F) → (⟨S_, .f32⟩ : BufTy).Contents (Elt F) → (⟨S2048x256, .f32⟩ : BufTy).Contents (Elt F)),
  StableHlo.nullary main_cst_12 (constant S_ .f32 0x3F800000#32),
  StableHlo.unary main_cst_12 main_v60 (broadcastInDim S2048x256 ![] bcast_S_S2048x256 : (⟨S_, .f32⟩ : BufTy).Contents (Elt F) → (⟨S2048x256, .f32⟩ : BufTy).Contents (Elt F)),
  StableHlo.binary main_v59 main_v60 main_v61 (Host.divf : (⟨S2048x256, .f32⟩ : BufTy).Contents (Elt F) → (⟨S2048x256, .f32⟩ : BufTy).Contents (Elt F) → (⟨S2048x256, .f32⟩ : BufTy).Contents (Elt F)),
  StableHlo.reshape main_v57 main_v62 (rfl : (.f32 : EltTy) = .f32) shapeCasts_S1x2048x2048_S2048x2048]

/-- The buffer each one writes. -/
def writes : List (Ref sig .tc) := [
  main_v0, main_v1, main_v2, main_v3, main_v4, main_v5, main_v6, main_v7, main_v8, main_v9, main_cst, main_call0_cst, main_call0_v0, main_call0_v1, main_call0_v2, main_call0_v3, main_call0_v4, main_v10, main_cst_0, main_v11, main_v12, main_v13, main_cst_1, main_call1_v0, main_call1_v1, main_v14, main_cst_2, main_v15, main_cst_3, main_v16, main_v17, main_v18, main_v19, main_v20, main_v21, main_cst_4, main_v22, main_v23, main_v24, main_v25, main_v26, main_v27, main_v28, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v29, main_v30, main_v31, main_v32, main_v33, main_v34, main_v35, main_v36, main_v37, main_v38, main_v39, main_v40, main_v41, main_cst_5, main_call3_cst, main_call3_v0, main_call3_v1, main_call3_v2, main_call3_v3, main_call3_v4, main_v42, main_cst_6, main_v43, main_v44, main_v45, main_cst_7, main_call4_v0, main_v46, main_cst_8, main_v47, main_cst_9, main_v48, main_v49, main_v50, main_v51, main_v52, main_v53, main_cst_10, main_v54, main_v55, main_v56, main_v57, main_v58, main_cst_11, main_v59, main_cst_12, main_v60, main_v61, main_v62]

theorem ops_writes : (ops (F := F)).map HloOp.writes = writes.map fun w => {Proc.devRef (τ := τ) .tc w} := rfl

set_option maxHeartbeats 4000000 in
theorem main_eq (d : Dev nD) : IsSeq (main (F := F) d) ops := by
  unfold IsSeq main main_part0 main_part1
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops (F := F)).Forall fun op => op.bufs ⊆ tcRefs τ sig := by
  unfold ops; simp [List.Forall]
theorem ops_fresh : ∀ op ∈ ops (F := F), op.fresh = ∅ :=
  List.forall_iff_forall_mem.mp (by unfold ops; simp only [List.Forall]; repeat' constructor)

/-- What the buffers hold at the end. -/
def fin (V : Valuation τ sig (Elt F)) : Valuation τ sig (Elt F) := after ops V

/-- The reference runs to `fin` of what it starts from. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin (launchContents m d) (Proc.devRef .tc b) :=
  run_hlo defs main main_eq scopedRefs_eq scopedSems_eq ops_sub ops_fresh m ρ

variable (V : Valuation τ sig (Elt F))

/-- A buffer no operation writes keeps its contents. -/
theorem fin_arg (b : Ref sig .tc) (h : b ∉ writes) : fin V (Proc.devRef .tc b) = V (Proc.devRef .tc b) :=
  after_unwritten writes ops_writes h V

/-- A buffer not written from operation `i` on holds at the end what it held before that operation. -/
theorem fin_upto (i : ℕ) (b : Ref sig .tc) (h : b ∉ writes.drop i) : fin V (Proc.devRef .tc b) = upto ops V i (Proc.devRef .tc b) := by
  have e : ops (F := F) = ops.take i ++ ops.drop i := (List.take_append_drop i ops).symm
  have ha : after (ops (F := F)) V = after (ops.drop i) (after (ops.take i) V) := by
    conv_lhs => rw [e]
    generalize (ops (F := F)).take i = l₁
    generalize (ops (F := F)).drop i = l₂
    induction l₁ generalizing V with
    | nil => rfl
    | cons op l ih => exact ih _
  unfold fin upto
  rw [ha]
  exact after_unwritten (writes.drop i) (by rw [List.map_drop, List.map_drop, ops_writes]) h _

/-- Operation `i` leaves at its buffer what it computes from the contents before it. -/
theorem fin_at (i : ℕ) (op : HloOp τ sig (Elt F)) (b : Ref sig .tc) (hop : ops.drop i = op :: ops.drop (i + 1)) (h : b ∉ writes.drop (i + 1)) :
    fin V (Proc.devRef .tc b) = op.result (upto ops V i) (Proc.devRef .tc b) :=
  after_last_write (writes.drop (i + 1)) hop (by rw [List.map_drop, List.map_drop, ops_writes]) h V

theorem fin_nullary (i : ℕ) {y : Ref sig .tc} {v : y.ty.Contents (Elt F)} {hy}
    (hop : ops.drop i = nullary y v hy :: ops.drop (i + 1)) (h : y ∉ writes.drop (i + 1)) :
    fin V (Proc.devRef .tc y) = v := by
  rw [fin_at V i _ y hop h, nullary_result]

theorem fin_unary (i : ℕ) {x y : Ref sig .tc} {f : x.ty.Contents (Elt F) → y.ty.Contents (Elt F)} {hx hy}
    (hop : ops.drop i = unary x y f hx hy :: ops.drop (i + 1)) (h : y ∉ writes.drop (i + 1)) (h₁ : x ∉ writes.drop i) :
    fin V (Proc.devRef .tc y) = f (fin V (Proc.devRef .tc x)) := by
  rw [fin_at V i _ y hop h, fin_upto V i x h₁, unary_result]

theorem fin_binary (i : ℕ) {a b y : Ref sig .tc} {f : a.ty.Contents (Elt F) → b.ty.Contents (Elt F) → y.ty.Contents (Elt F)} {ha hb hy}
    (hop : ops.drop i = binary a b y f ha hb hy :: ops.drop (i + 1)) (h : y ∉ writes.drop (i + 1)) (h₁ : a ∉ writes.drop i) (h₂ : b ∉ writes.drop i) :
    fin V (Proc.devRef .tc y) = f (fin V (Proc.devRef .tc a)) (fin V (Proc.devRef .tc b)) := by
  rw [fin_at V i _ y hop h, fin_upto V i a h₁, fin_upto V i b h₂, binary_result]

theorem fin_ternary (i : ℕ) {c a b y : Ref sig .tc} {f : c.ty.Contents (Elt F) → a.ty.Contents (Elt F) → b.ty.Contents (Elt F) → y.ty.Contents (Elt F)} {hc ha hb hy}
    (hop : ops.drop i = ternary c a b y f hc ha hb hy :: ops.drop (i + 1)) (h : y ∉ writes.drop (i + 1)) (h₀ : c ∉ writes.drop i) (h₁ : a ∉ writes.drop i) (h₂ : b ∉ writes.drop i) :
    fin V (Proc.devRef .tc y) = f (fin V (Proc.devRef .tc c)) (fin V (Proc.devRef .tc a)) (fin V (Proc.devRef .tc b)) := by
  rw [fin_at V i _ y hop h, fin_upto V i c h₀, fin_upto V i a h₁, fin_upto V i b h₂, ternary_result]

theorem fin_reshape (i : ℕ) {x y : Ref sig .tc} {he hn hx hy}
    (hop : ops.drop i = reshape (τ := τ) (Val := Elt F) x y he hn hx hy :: ops.drop (i + 1)) (h : y ∉ writes.drop (i + 1)) (h₁ : x ∉ writes.drop i) :
    fin V (Proc.devRef .tc y) = fun j => he ▸ shapeCast y.ty.shape (fin V (Proc.devRef .tc x)) hn j := by
  rw [fin_at V i _ y hop h, reshape_result, fin_upto V i x h₁]

theorem at_v0 : fin V main_v0 = ((fun l r => Host.dotGeneral dot_S2048x512_S512x2048_S2048x2048_1_0_0_1_n_n none l r) : (⟨S2048x512, .f32⟩ : BufTy).Contents (Elt F) → (⟨S512x2048, .f32⟩ : BufTy).Contents (Elt F) → (⟨S2048x2048, .f32⟩ : BufTy).Contents (Elt F)) (fin V main_arg0) (fin V main_arg2) :=
  fin_binary V 0 rfl (by decide) (by decide) (by decide)
set_option maxHeartbeats 4000000 in
theorem at_v1 : fin V main_v1 = shapeCast S2048x8x256 ((fin V main_v0) : (⟨S2048x2048, .f32⟩ : BufTy).Contents (Elt F)) shapeCasts_S2048x2048_S2048x8x256 :=
  fin_reshape V 1 rfl (by decide) (by decide)
theorem at_v2 : fin V main_v2 = ((transpose S8x2048x256 [1, 0, 2] · transposes_S2048x8x256_S8x2048x256_1_0_2) : (⟨S2048x8x256, .f32⟩ : BufTy).Contents (Elt F) → (⟨S8x2048x256, .f32⟩ : BufTy).Contents (Elt F)) (fin V main_v1) :=
  fin_unary V 2 rfl (by decide) (by decide)
theorem at_v3 : fin V main_v3 = ((fun l r => Host.dotGeneral dot_S8x2048x256_S8x256_S8x2048_2_1_1_n_0_0 none l r) : (⟨S8x2048x256, .f32⟩ : BufTy).Contents (Elt F) → (⟨S8x256, .f32⟩ : BufTy).Contents (Elt F) → (⟨S8x2048, .f32⟩ : BufTy).Contents (Elt F)) (fin V main_v2) (fin V main_arg3) :=
  fin_binary V 3 rfl (by decide) (by decide) (by decide)
theorem at_v4 : fin V main_v4 = ((fun l r => Host.dotGeneral dot_S8x2048x256_S8x256_S8x2048_2_1_1_n_0_0 none l r) : (⟨S8x2048x256, .f32⟩ : BufTy).Contents (Elt F) → (⟨S8x256, .f32⟩ : BufTy).Contents (Elt F) → (⟨S8x2048, .f32⟩ : BufTy).Contents (Elt F)) (fin V main_v2) (fin V main_arg4) :=
  fin_binary V 4 rfl (by decide) (by decide) (by decide)
theorem at_v5 : fin V main_v5 = (broadcastInDim S8x2048x1 ![0, 1] bcast_S8x2048_S8x2048x1_0_1 : (⟨S8x2048, .f32⟩ : BufTy).Contents (Elt F) → (⟨S8x2048x1, .f32⟩ : BufTy).Contents (Elt F)) (fin V main_v3) :=
  fin_unary V 5 rfl (by decide) (by decide)
theorem at_v6 : fin V main_v6 = (broadcastInDim S8x1x2048 ![0, 2] bcast_S8x2048_S8x1x2048_0_2 : (⟨S8x2048, .f32⟩ : BufTy).Contents (Elt F) → (⟨S8x1x2048, .f32⟩ : BufTy).Contents (Elt F)) (fin V main_v4) :=
  fin_unary V 6 rfl (by decide) (by decide)
theorem at_v7 : fin V main_v7 = (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)) (fin V main_v5) :=
  fin_unary V 7 rfl (by decide) (by decide)
theorem at_v8 : fin V main_v8 = (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)) (fin V main_v6) :=
  fin_unary V 8 rfl (by decide) (by decide)
theorem at_v9 : fin V main_v9 = (addf : (⟨S8x2048x2048, .f32⟩ : BufTy).Contents (Elt F) → (⟨S8x2048x2048, .f32⟩ : BufTy).Contents (Elt F) → (⟨S8x2048x2048, .f32⟩ : BufTy).Contents (Elt F)) (fin V main_v7) (fin V main_v8) :=
  fin_binary V 9 rfl (by decide) (by decide) (by decide)
theorem at_cst : fin V main_cst = (constant S_ .f32 0x3E4CCCCD#32) :=
  fin_nullary V 10 rfl (by decide)
theorem at_call0_cst : fin V main_call0_cst = (constant S_ .f32 0x00000000#32) :=
  fin_nullary V 11 rfl (by decide)
theorem at_call0_v0 : fin V main_call0_v0 = (broadcastInDim S8x2048x2048 ![] bcast_S_S8x2048x2048 : (⟨S_, .f32⟩ : BufTy).Contents (Elt F) → (⟨S8x2048x2048, .f32⟩ : BufTy).Contents (Elt F)) (fin V main_call0_cst) :=
  fin_unary V 12 rfl (by decide) (by decide)
theorem at_call0_v1 : fin V main_call0_v1 = (cmpf .oge : (⟨S8x2048x2048, .f32⟩ : BufTy).Contents (Elt F) → (⟨S8x2048x2048, .f32⟩ : BufTy).Contents (Elt F) → (⟨S8x2048x2048, .i1⟩ : BufTy).Contents (Elt F)) (fin V main_v9) (fin V main_call0_v0) :=
  fin_binary V 13 rfl (by decide) (by decide) (by decide)
theorem at_call0_v2 : fin V main_call0_v2 = (id : (⟨S_, .f32⟩ : BufTy).Contents (Elt F) → (⟨S_, .f32⟩ : BufTy).Contents (Elt F)) (fin V main_cst) :=
  fin_unary V 14 rfl (by decide) (by decide)
theorem at_call0_v3 : fin V main_call0_v3 = (broadcastInDim S8x2048x2048 ![] bcast_S_S8x2048x2048 : (⟨S_, .f32⟩ : BufTy).Contents (Elt F) → (⟨S8x2048x2048, .f32⟩ : BufTy).Contents (Elt F)) (fin V main_call0_v2) :=
  fin_unary V 15 rfl (by decide) (by decide)
theorem at_call0_v4 : fin V main_call0_v4 = (mulf : (⟨S8x2048x2048, .f32⟩ : BufTy).Contents (Elt F) → (⟨S8x2048x2048, .f32⟩ : BufTy).Contents (Elt F) → (⟨S8x2048x2048, .f32⟩ : BufTy).Contents (Elt F)) (fin V main_call0_v3) (fin V main_v9) :=
  fin_binary V 16 rfl (by decide) (by decide) (by decide)
theorem at_v10 : fin V main_v10 = (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)) (fin V main_call0_v1) (fin V main_v9) (fin V main_call0_v4) :=
  fin_ternary V 17 rfl (by decide) (by decide) (by decide) (by decide)
theorem at_cst_0 : fin V main_cst_0 = (constant S_ .f32 0x00000000#32) :=
  fin_nullary V 18 rfl (by decide)
theorem at_v11 : fin V main_v11 = (broadcastInDim S2048x2048 ![] bcast_S_S2048x2048 : (⟨S_, .f32⟩ : BufTy).Contents (Elt F) → (⟨S2048x2048, .f32⟩ : BufTy).Contents (Elt F)) (fin V main_cst_0) :=
  fin_unary V 19 rfl (by decide) (by decide)
theorem at_v12 : fin V main_v12 = (cmpf .ogt : (⟨S2048x2048, .f32⟩ : BufTy).Contents (Elt F) → (⟨S2048x2048, .f32⟩ : BufTy).Contents (Elt F) → (⟨S2048x2048, .i1⟩ : BufTy).Contents (Elt F)) (fin V main_arg1) (fin V main_v11) :=
  fin_binary V 20 rfl (by decide) (by decide) (by decide)
theorem at_v13 : fin V main_v13 = (broadcastInDim S1x2048x2048 ![1, 2] bcast_S2048x2048_S1x2048x2048_1_2 : (⟨S2048x2048, .i1⟩ : BufTy).Contents (Elt F) → (⟨S1x2048x2048, .i1⟩ : BufTy).Contents (Elt F)) (fin V main_v12) :=
  fin_unary V 21 rfl (by decide) (by decide)
theorem at_cst_1 : fin V main_cst_1 = (constant S_ .f32 0xFF800000#32) :=
  fin_nullary V 22 rfl (by decide)
theorem at_call1_v0 : fin V main_call1_v0 = (broadcastInDim S8x2048x2048 ![0, 1, 2] bcast_S1x2048x2048_S8x2048x2048_0_1_2 : (⟨S1x2048x2048, .i1⟩ : BufTy).Contents (Elt F) → (⟨S8x2048x2048, .i1⟩ : BufTy).Contents (Elt F)) (fin V main_v13) :=
  fin_unary V 23 rfl (by decide) (by decide)
theorem at_call1_v1 : fin V main_call1_v1 = (broadcastInDim S8x2048x2048 ![] bcast_S_S8x2048x2048 : (⟨S_, .f32⟩ : BufTy).Contents (Elt F) → (⟨S8x2048x2048, .f32⟩ : BufTy).Contents (Elt F)) (fin V main_cst_1) :=
  fin_unary V 24 rfl (by decide) (by decide)
theorem at_v14 : fin V main_v14 = (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)) (fin V main_call1_v0) (fin V main_v10) (fin V main_call1_v1) :=
  fin_ternary V 25 rfl (by decide) (by decide) (by decide) (by decide)
theorem at_cst_2 : fin V main_cst_2 = (constant S_ .f32 0xFF800000#32) :=
  fin_nullary V 26 rfl (by decide)
theorem at_v15 : fin V main_v15 = ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)) (fin V main_v14) (fin V main_cst_2) :=
  fin_binary V 27 rfl (by decide) (by decide) (by decide)
theorem at_cst_3 : fin V main_cst_3 = (constant S_ .f32 0xFF800000#32) :=
  fin_nullary V 28 rfl (by decide)
theorem at_v16 : fin V main_v16 = (broadcastInDim S8x2048 ![] bcast_S_S8x2048 : (⟨S_, .f32⟩ : BufTy).Contents (Elt F) → (⟨S8x2048, .f32⟩ : BufTy).Contents (Elt F)) (fin V main_cst_3) :=
  fin_unary V 29 rfl (by decide) (by decide)
theorem at_v17 : fin V main_v17 = (maximumf : (⟨S8x2048, .f32⟩ : BufTy).Contents (Elt F) → (⟨S8x2048, .f32⟩ : BufTy).Contents (Elt F) → (⟨S8x2048, .f32⟩ : BufTy).Contents (Elt F)) (fin V main_v16) (fin V main_v15) :=
  fin_binary V 30 rfl (by decide) (by decide) (by decide)
theorem at_v18 : fin V main_v18 = (broadcastInDim S8x2048x1 ![0, 1] bcast_S8x2048_S8x2048x1_0_1 : (⟨S8x2048, .f32⟩ : BufTy).Contents (Elt F) → (⟨S8x2048x1, .f32⟩ : BufTy).Contents (Elt F)) (fin V main_v17) :=
  fin_unary V 31 rfl (by decide) (by decide)
theorem at_v19 : fin V main_v19 = (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)) (fin V main_v18) :=
  fin_unary V 32 rfl (by decide) (by decide)
theorem at_v20 : fin V main_v20 = (subf : (⟨S8x2048x2048, .f32⟩ : BufTy).Contents (Elt F) → (⟨S8x2048x2048, .f32⟩ : BufTy).Contents (Elt F) → (⟨S8x2048x2048, .f32⟩ : BufTy).Contents (Elt F)) (fin V main_v14) (fin V main_v19) :=
  fin_binary V 33 rfl (by decide) (by decide) (by decide)
theorem at_v21 : fin V main_v21 = (Host.exp : (⟨S8x2048x2048, .f32⟩ : BufTy).Contents (Elt F) → (⟨S8x2048x2048, .f32⟩ : BufTy).Contents (Elt F)) (fin V main_v20) :=
  fin_unary V 34 rfl (by decide) (by decide)
theorem at_cst_4 : fin V main_cst_4 = (constant S_ .f32 0x00000000#32) :=
  fin_nullary V 35 rfl (by decide)
theorem at_v22 : fin V main_v22 = ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)) (fin V main_v21) (fin V main_cst_4) :=
  fin_binary V 36 rfl (by decide) (by decide) (by decide)
theorem at_v23 : fin V main_v23 = (broadcastInDim S8x2048x1 ![0, 1] bcast_S8x2048_S8x2048x1_0_1 : (⟨S8x2048, .f32⟩ : BufTy).Contents (Elt F) → (⟨S8x2048x1, .f32⟩ : BufTy).Contents (Elt F)) (fin V main_v22) :=
  fin_unary V 37 rfl (by decide) (by decide)
theorem at_v24 : fin V main_v24 = (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)) (fin V main_v23) :=
  fin_unary V 38 rfl (by decide) (by decide)
theorem at_v25 : fin V main_v25 = (Host.divf : (⟨S8x2048x2048, .f32⟩ : BufTy).Contents (Elt F) → (⟨S8x2048x2048, .f32⟩ : BufTy).Contents (Elt F) → (⟨S8x2048x2048, .f32⟩ : BufTy).Contents (Elt F)) (fin V main_v21) (fin V main_v24) :=
  fin_binary V 39 rfl (by decide) (by decide) (by decide)
theorem at_v26 : fin V main_v26 = ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)) (fin V main_v25) (fin V main_v2) :=
  fin_binary V 40 rfl (by decide) (by decide) (by decide)
theorem at_v27 : fin V main_v27 = ((transpose S2048x8x256 [1, 0, 2] · transposes_S8x2048x256_S2048x8x256_1_0_2) : (⟨S8x2048x256, .f32⟩ : BufTy).Contents (Elt F) → (⟨S2048x8x256, .f32⟩ : BufTy).Contents (Elt F)) (fin V main_v26) :=
  fin_unary V 41 rfl (by decide) (by decide)
set_option maxHeartbeats 4000000 in
theorem at_v28 : fin V main_v28 = shapeCast S2048x2048 ((fin V main_v27) : (⟨S2048x8x256, .f32⟩ : BufTy).Contents (Elt F)) shapeCasts_S2048x8x256_S2048x2048 :=
  fin_reshape V 42 rfl (by decide) (by decide)
theorem at_call2_cst : fin V main_call2_cst = (constant S_ .f32 0x00000000#32) :=
  fin_nullary V 43 rfl (by decide)
theorem at_call2_v0 : fin V main_call2_v0 = (broadcastInDim S2048x2048 ![] bcast_S_S2048x2048 : (⟨S_, .f32⟩ : BufTy).Contents (Elt F) → (⟨S2048x2048, .f32⟩ : BufTy).Contents (Elt F)) (fin V main_call2_cst) :=
  fin_unary V 44 rfl (by decide) (by decide)
theorem at_call2_v1 : fin V main_call2_v1 = (cmpf .ogt : (⟨S2048x2048, .f32⟩ : BufTy).Contents (Elt F) → (⟨S2048x2048, .f32⟩ : BufTy).Contents (Elt F) → (⟨S2048x2048, .i1⟩ : BufTy).Contents (Elt F)) (fin V main_v28) (fin V main_call2_v0) :=
  fin_binary V 45 rfl (by decide) (by decide) (by decide)
theorem at_call2_cst_0 : fin V main_call2_cst_0 = (constant S_ .f32 0x00000000#32) :=
  fin_nullary V 46 rfl (by decide)
theorem at_call2_v2 : fin V main_call2_v2 = (broadcastInDim S2048x2048 ![] bcast_S_S2048x2048 : (⟨S_, .f32⟩ : BufTy).Contents (Elt F) → (⟨S2048x2048, .f32⟩ : BufTy).Contents (Elt F)) (fin V main_call2_cst_0) :=
  fin_unary V 47 rfl (by decide) (by decide)
theorem at_call2_v3 : fin V main_call2_v3 = (cmpf .ogt : (⟨S2048x2048, .f32⟩ : BufTy).Contents (Elt F) → (⟨S2048x2048, .f32⟩ : BufTy).Contents (Elt F) → (⟨S2048x2048, .i1⟩ : BufTy).Contents (Elt F)) (fin V main_v28) (fin V main_call2_v2) :=
  fin_binary V 48 rfl (by decide) (by decide) (by decide)
theorem at_call2_cst_1 : fin V main_call2_cst_1 = (constant S_ .f32 0x00000000#32) :=
  fin_nullary V 49 rfl (by decide)
theorem at_call2_call0_v0 : fin V main_call2_call0_v0 = (id : (⟨S_, .f32⟩ : BufTy).Contents (Elt F) → (⟨S_, .f32⟩ : BufTy).Contents (Elt F)) (fin V main_call2_cst_1) :=
  fin_unary V 50 rfl (by decide) (by decide)
theorem at_call2_call0_v1 : fin V main_call2_call0_v1 = (broadcastInDim S2048x2048 ![] bcast_S_S2048x2048 : (⟨S_, .f32⟩ : BufTy).Contents (Elt F) → (⟨S2048x2048, .f32⟩ : BufTy).Contents (Elt F)) (fin V main_call2_call0_v0) :=
  fin_unary V 51 rfl (by decide) (by decide)
theorem at_call2_v4 : fin V main_call2_v4 = (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F)) (fin V main_call2_v3) (fin V main_call2_call0_v1) (fin V main_v28) :=
  fin_ternary V 52 rfl (by decide) (by decide) (by decide) (by decide)
theorem at_call2_v5 : fin V main_call2_v5 = (Host.expm1 : (⟨S2048x2048, .f32⟩ : BufTy).Contents (Elt F) → (⟨S2048x2048, .f32⟩ : BufTy).Contents (Elt F)) (fin V main_call2_v4) :=
  fin_unary V 53 rfl (by decide) (by decide)
theorem at_call2_cst_2 : fin V main_call2_cst_2 = (constant S_ .f32 0x3F800000#32) :=
  fin_nullary V 54 rfl (by decide)
theorem at_call2_v6 : fin V main_call2_v6 = (broadcastInDim S2048x2048 ![] bcast_S_S2048x2048 : (⟨S_, .f32⟩ : BufTy).Contents (Elt F) → (⟨S2048x2048, .f32⟩ : BufTy).Contents (Elt F)) (fin V main_call2_cst_2) :=
  fin_unary V 55 rfl (by decide) (by decide)
theorem at_call2_v7 : fin V main_call2_v7 = (mulf : (⟨S2048x2048, .f32⟩ : BufTy).Contents (Elt F) → (⟨S2048x2048, .f32⟩ : BufTy).Contents (Elt F) → (⟨S2048x2048, .f32⟩ : BufTy).Contents (Elt F)) (fin V main_call2_v6) (fin V main_call2_v5) :=
  fin_binary V 56 rfl (by decide) (by decide) (by decide)
theorem at_v29 : fin V main_v29 = (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F)) (fin V main_call2_v1) (fin V main_v28) (fin V main_call2_v7) :=
  fin_ternary V 57 rfl (by decide) (by decide) (by decide) (by decide)
theorem at_v30 : fin V main_v30 = (broadcastInDim S1x256 ![1] bcast_S256_S1x256_1 : (⟨S256, .f32⟩ : BufTy).Contents (Elt F) → (⟨S1x256, .f32⟩ : BufTy).Contents (Elt F)) (fin V main_arg6) :=
  fin_unary V 58 rfl (by decide) (by decide)
theorem at_v31 : fin V main_v31 = (broadcastInDim S1x256 ![1] bcast_S256_S1x256_1 : (⟨S256, .f32⟩ : BufTy).Contents (Elt F) → (⟨S1x256, .f32⟩ : BufTy).Contents (Elt F)) (fin V main_arg7) :=
  fin_unary V 59 rfl (by decide) (by decide)
theorem at_v32 : fin V main_v32 = ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)) (fin V main_v29) (fin V main_arg5) :=
  fin_binary V 60 rfl (by decide) (by decide) (by decide)
set_option maxHeartbeats 4000000 in
theorem at_v33 : fin V main_v33 = shapeCast S2048x1x256 ((fin V main_v32) : (⟨S2048x256, .f32⟩ : BufTy).Contents (Elt F)) shapeCasts_S2048x256_S2048x1x256 :=
  fin_reshape V 61 rfl (by decide) (by decide)
theorem at_v34 : fin V main_v34 = ((transpose S1x2048x256 [1, 0, 2] · transposes_S2048x1x256_S1x2048x256_1_0_2) : (⟨S2048x1x256, .f32⟩ : BufTy).Contents (Elt F) → (⟨S1x2048x256, .f32⟩ : BufTy).Contents (Elt F)) (fin V main_v33) :=
  fin_unary V 62 rfl (by decide) (by decide)
theorem at_v35 : fin V main_v35 = ((fun l r => Host.dotGeneral dot_S1x2048x256_S1x256_S1x2048_2_1_1_n_0_0 none l r) : (⟨S1x2048x256, .f32⟩ : BufTy).Contents (Elt F) → (⟨S1x256, .f32⟩ : BufTy).Contents (Elt F) → (⟨S1x2048, .f32⟩ : BufTy).Contents (Elt F)) (fin V main_v34) (fin V main_v30) :=
  fin_binary V 63 rfl (by decide) (by decide) (by decide)
theorem at_v36 : fin V main_v36 = ((fun l r => Host.dotGeneral dot_S1x2048x256_S1x256_S1x2048_2_1_1_n_0_0 none l r) : (⟨S1x2048x256, .f32⟩ : BufTy).Contents (Elt F) → (⟨S1x256, .f32⟩ : BufTy).Contents (Elt F) → (⟨S1x2048, .f32⟩ : BufTy).Contents (Elt F)) (fin V main_v34) (fin V main_v31) :=
  fin_binary V 64 rfl (by decide) (by decide) (by decide)
theorem at_v37 : fin V main_v37 = (broadcastInDim S1x2048x1 ![0, 1] bcast_S1x2048_S1x2048x1_0_1 : (⟨S1x2048, .f32⟩ : BufTy).Contents (Elt F) → (⟨S1x2048x1, .f32⟩ : BufTy).Contents (Elt F)) (fin V main_v35) :=
  fin_unary V 65 rfl (by decide) (by decide)
theorem at_v38 : fin V main_v38 = (broadcastInDim S1x1x2048 ![0, 2] bcast_S1x2048_S1x1x2048_0_2 : (⟨S1x2048, .f32⟩ : BufTy).Contents (Elt F) → (⟨S1x1x2048, .f32⟩ : BufTy).Contents (Elt F)) (fin V main_v36) :=
  fin_unary V 66 rfl (by decide) (by decide)
theorem at_v39 : fin V main_v39 = (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)) (fin V main_v37) :=
  fin_unary V 67 rfl (by decide) (by decide)
theorem at_v40 : fin V main_v40 = (broadcastInDim S1x2048x2048 ![0, 1, 2] bcast_S1x1x2048_S1x2048x2048_0_1_2 : (⟨S1x1x2048, .f32⟩ : BufTy).Contents (Elt F) → (⟨S1x2048x2048, .f32⟩ : BufTy).Contents (Elt F)) (fin V main_v38) :=
  fin_unary V 68 rfl (by decide) (by decide)
theorem at_v41 : fin V main_v41 = (addf : (⟨S1x2048x2048, .f32⟩ : BufTy).Contents (Elt F) → (⟨S1x2048x2048, .f32⟩ : BufTy).Contents (Elt F) → (⟨S1x2048x2048, .f32⟩ : BufTy).Contents (Elt F)) (fin V main_v39) (fin V main_v40) :=
  fin_binary V 69 rfl (by decide) (by decide) (by decide)
theorem at_cst_5 : fin V main_cst_5 = (constant S_ .f32 0x3E4CCCCD#32) :=
  fin_nullary V 70 rfl (by decide)
theorem at_call3_cst : fin V main_call3_cst = (constant S_ .f32 0x00000000#32) :=
  fin_nullary V 71 rfl (by decide)
theorem at_call3_v0 : fin V main_call3_v0 = (broadcastInDim S1x2048x2048 ![] bcast_S_S1x2048x2048 : (⟨S_, .f32⟩ : BufTy).Contents (Elt F) → (⟨S1x2048x2048, .f32⟩ : BufTy).Contents (Elt F)) (fin V main_call3_cst) :=
  fin_unary V 72 rfl (by decide) (by decide)
theorem at_call3_v1 : fin V main_call3_v1 = (cmpf .oge : (⟨S1x2048x2048, .f32⟩ : BufTy).Contents (Elt F) → (⟨S1x2048x2048, .f32⟩ : BufTy).Contents (Elt F) → (⟨S1x2048x2048, .i1⟩ : BufTy).Contents (Elt F)) (fin V main_v41) (fin V main_call3_v0) :=
  fin_binary V 73 rfl (by decide) (by decide) (by decide)
theorem at_call3_v2 : fin V main_call3_v2 = (id : (⟨S_, .f32⟩ : BufTy).Contents (Elt F) → (⟨S_, .f32⟩ : BufTy).Contents (Elt F)) (fin V main_cst_5) :=
  fin_unary V 74 rfl (by decide) (by decide)
theorem at_call3_v3 : fin V main_call3_v3 = (broadcastInDim S1x2048x2048 ![] bcast_S_S1x2048x2048 : (⟨S_, .f32⟩ : BufTy).Contents (Elt F) → (⟨S1x2048x2048, .f32⟩ : BufTy).Contents (Elt F)) (fin V main_call3_v2) :=
  fin_unary V 75 rfl (by decide) (by decide)
theorem at_call3_v4 : fin V main_call3_v4 = (mulf : (⟨S1x2048x2048, .f32⟩ : BufTy).Contents (Elt F) → (⟨S1x2048x2048, .f32⟩ : BufTy).Contents (Elt F) → (⟨S1x2048x2048, .f32⟩ : BufTy).Contents (Elt F)) (fin V main_call3_v3) (fin V main_v41) :=
  fin_binary V 76 rfl (by decide) (by decide) (by decide)
theorem at_v42 : fin V main_v42 = (select : (⟨S1x2048x2048, .i1⟩ : BufTy).Contents (Elt F) → (⟨S1x2048x2048, .f32⟩ : BufTy).Contents (Elt F) → (⟨S1x2048x2048, .f32⟩ : BufTy).Contents (Elt F) → (⟨S1x2048x2048, .f32⟩ : BufTy).Contents (Elt F)) (fin V main_call3_v1) (fin V main_v41) (fin V main_call3_v4) :=
  fin_ternary V 77 rfl (by decide) (by decide) (by decide) (by decide)
theorem at_cst_6 : fin V main_cst_6 = (constant S_ .f32 0x00000000#32) :=
  fin_nullary V 78 rfl (by decide)
theorem at_v43 : fin V main_v43 = (broadcastInDim S2048x2048 ![] bcast_S_S2048x2048 : (⟨S_, .f32⟩ : BufTy).Contents (Elt F) → (⟨S2048x2048, .f32⟩ : BufTy).Contents (Elt F)) (fin V main_cst_6) :=
  fin_unary V 79 rfl (by decide) (by decide)
theorem at_v44 : fin V main_v44 = (cmpf .ogt : (⟨S2048x2048, .f32⟩ : BufTy).Contents (Elt F) → (⟨S2048x2048, .f32⟩ : BufTy).Contents (Elt F) → (⟨S2048x2048, .i1⟩ : BufTy).Contents (Elt F)) (fin V main_arg1) (fin V main_v43) :=
  fin_binary V 80 rfl (by decide) (by decide) (by decide)
set_option maxHeartbeats 4000000 in
theorem at_v45 : fin V main_v45 = (broadcastInDim S1x2048x2048 ![1, 2] bcast_S2048x2048_S1x2048x2048_1_2 : (⟨S2048x2048, .i1⟩ : BufTy).Contents (Elt F) → (⟨S1x2048x2048, .i1⟩ : BufTy).Contents (Elt F)) (fin V main_v44) :=
  fin_unary V 81 rfl (by decide) (by decide)
set_option maxHeartbeats 4000000 in
theorem at_cst_7 : fin V main_cst_7 = (constant S_ .f32 0xFF800000#32) :=
  fin_nullary V 82 rfl (by decide)
set_option maxHeartbeats 4000000 in
theorem at_call4_v0 : fin V main_call4_v0 = (broadcastInDim S1x2048x2048 ![] bcast_S_S1x2048x2048 : (⟨S_, .f32⟩ : BufTy).Contents (Elt F) → (⟨S1x2048x2048, .f32⟩ : BufTy).Contents (Elt F)) (fin V main_cst_7) :=
  fin_unary V 83 rfl (by decide) (by decide)
set_option maxHeartbeats 4000000 in
theorem at_v46 : fin V main_v46 = (select : (⟨S1x2048x2048, .i1⟩ : BufTy).Contents (Elt F) → (⟨S1x2048x2048, .f32⟩ : BufTy).Contents (Elt F) → (⟨S1x2048x2048, .f32⟩ : BufTy).Contents (Elt F) → (⟨S1x2048x2048, .f32⟩ : BufTy).Contents (Elt F)) (fin V main_v45) (fin V main_v42) (fin V main_call4_v0) :=
  fin_ternary V 84 rfl (by decide) (by decide) (by decide) (by decide)
set_option maxHeartbeats 4000000 in
theorem at_cst_8 : fin V main_cst_8 = (constant S_ .f32 0xFF800000#32) :=
  fin_nullary V 85 rfl (by decide)
set_option maxHeartbeats 4000000 in
theorem at_v47 : fin V main_v47 = ((fun x v => Host.reduce FloatOps.maximumf x v reducesTo_S1x2048x2048_S1x2048_d2 h_S_) : (⟨S1x2048x2048, .f32⟩ : BufTy).Contents (Elt F) → (⟨S_, .f32⟩ : BufTy).Contents (Elt F) → (⟨S1x2048, .f32⟩ : BufTy).Contents (Elt F)) (fin V main_v46) (fin V main_cst_8) :=
  fin_binary V 86 rfl (by decide) (by decide) (by decide)
set_option maxHeartbeats 4000000 in
theorem at_cst_9 : fin V main_cst_9 = (constant S_ .f32 0xFF800000#32) :=
  fin_nullary V 87 rfl (by decide)
set_option maxHeartbeats 4000000 in
theorem at_v48 : fin V main_v48 = (broadcastInDim S1x2048 ![] bcast_S_S1x2048 : (⟨S_, .f32⟩ : BufTy).Contents (Elt F) → (⟨S1x2048, .f32⟩ : BufTy).Contents (Elt F)) (fin V main_cst_9) :=
  fin_unary V 88 rfl (by decide) (by decide)
set_option maxHeartbeats 4000000 in
theorem at_v49 : fin V main_v49 = (maximumf : (⟨S1x2048, .f32⟩ : BufTy).Contents (Elt F) → (⟨S1x2048, .f32⟩ : BufTy).Contents (Elt F) → (⟨S1x2048, .f32⟩ : BufTy).Contents (Elt F)) (fin V main_v48) (fin V main_v47) :=
  fin_binary V 89 rfl (by decide) (by decide) (by decide)
set_option maxHeartbeats 4000000 in
theorem at_v50 : fin V main_v50 = (broadcastInDim S1x2048x1 ![0, 1] bcast_S1x2048_S1x2048x1_0_1 : (⟨S1x2048, .f32⟩ : BufTy).Contents (Elt F) → (⟨S1x2048x1, .f32⟩ : BufTy).Contents (Elt F)) (fin V main_v49) :=
  fin_unary V 90 rfl (by decide) (by decide)
set_option maxHeartbeats 4000000 in
theorem at_v51 : fin V main_v51 = (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)) (fin V main_v50) :=
  fin_unary V 91 rfl (by decide) (by decide)
set_option maxHeartbeats 4000000 in
theorem at_v52 : fin V main_v52 = (subf : (⟨S1x2048x2048, .f32⟩ : BufTy).Contents (Elt F) → (⟨S1x2048x2048, .f32⟩ : BufTy).Contents (Elt F) → (⟨S1x2048x2048, .f32⟩ : BufTy).Contents (Elt F)) (fin V main_v46) (fin V main_v51) :=
  fin_binary V 92 rfl (by decide) (by decide) (by decide)
set_option maxHeartbeats 4000000 in
theorem at_v53 : fin V main_v53 = (Host.exp : (⟨S1x2048x2048, .f32⟩ : BufTy).Contents (Elt F) → (⟨S1x2048x2048, .f32⟩ : BufTy).Contents (Elt F)) (fin V main_v52) :=
  fin_unary V 93 rfl (by decide) (by decide)
set_option maxHeartbeats 4000000 in
theorem at_cst_10 : fin V main_cst_10 = (constant S_ .f32 0x00000000#32) :=
  fin_nullary V 94 rfl (by decide)
set_option maxHeartbeats 4000000 in
theorem at_v54 : fin V main_v54 = ((fun x v => Host.reduceAdd x v reducesTo_S1x2048x2048_S1x2048_d2 h_S_) : (⟨S1x2048x2048, .f32⟩ : BufTy).Contents (Elt F) → (⟨S_, .f32⟩ : BufTy).Contents (Elt F) → (⟨S1x2048, .f32⟩ : BufTy).Contents (Elt F)) (fin V main_v53) (fin V main_cst_10) :=
  fin_binary V 95 rfl (by decide) (by decide) (by decide)
set_option maxHeartbeats 4000000 in
theorem at_v55 : fin V main_v55 = (broadcastInDim S1x2048x1 ![0, 1] bcast_S1x2048_S1x2048x1_0_1 : (⟨S1x2048, .f32⟩ : BufTy).Contents (Elt F) → (⟨S1x2048x1, .f32⟩ : BufTy).Contents (Elt F)) (fin V main_v54) :=
  fin_unary V 96 rfl (by decide) (by decide)
set_option maxHeartbeats 4000000 in
theorem at_v56 : fin V main_v56 = (broadcastInDim S1x2048x2048 ![0, 1, 2] bcast_S1x2048x1_S1x2048x2048_0_1_2 : (⟨S1x2048x1, .f32⟩ : BufTy).Contents (Elt F) → (⟨S1x2048x2048, .f32⟩ : BufTy).Contents (Elt F)) (fin V main_v55) :=
  fin_unary V 97 rfl (by decide) (by decide)
set_option maxHeartbeats 4000000 in
theorem at_v57 : fin V main_v57 = (Host.divf : (⟨S1x2048x2048, .f32⟩ : BufTy).Contents (Elt F) → (⟨S1x2048x2048, .f32⟩ : BufTy).Contents (Elt F) → (⟨S1x2048x2048, .f32⟩ : BufTy).Contents (Elt F)) (fin V main_v53) (fin V main_v56) :=
  fin_binary V 98 rfl (by decide) (by decide) (by decide)
set_option maxHeartbeats 4000000 in
theorem at_v58 : fin V main_v58 = ((fun l r => Host.dotGeneral dot_S1x2048x2048_S1x2048x256_S1x2048x256_2_1_1_2_0_0 none l r) : (⟨S1x2048x2048, .f32⟩ : BufTy).Contents (Elt F) → (⟨S1x2048x256, .f32⟩ : BufTy).Contents (Elt F) → (⟨S1x2048x256, .f32⟩ : BufTy).Contents (Elt F)) (fin V main_v57) (fin V main_v34) :=
  fin_binary V 99 rfl (by decide) (by decide) (by decide)
set_option maxHeartbeats 4000000 in
theorem at_cst_11 : fin V main_cst_11 = (constant S_ .f32 0x00000000#32) :=
  fin_nullary V 100 rfl (by decide)
set_option maxHeartbeats 4000000 in
theorem at_v59 : fin V main_v59 = ((fun x v => Host.reduceAdd x v reducesTo_S1x2048x256_S2048x256_d0 h_S_) : (⟨S1x2048x256, .f32⟩ : BufTy).Contents (Elt F) → (⟨S_, .f32⟩ : BufTy).Contents (Elt F) → (⟨S2048x256, .f32⟩ : BufTy).Contents (Elt F)) (fin V main_v58) (fin V main_cst_11) :=
  fin_binary V 101 rfl (by decide) (by decide) (by decide)
set_option maxHeartbeats 4000000 in
theorem at_cst_12 : fin V main_cst_12 = (constant S_ .f32 0x3F800000#32) :=
  fin_nullary V 102 rfl (by decide)
set_option maxHeartbeats 4000000 in
theorem at_v60 : fin V main_v60 = (broadcastInDim S2048x256 ![] bcast_S_S2048x256 : (⟨S_, .f32⟩ : BufTy).Contents (Elt F) → (⟨S2048x256, .f32⟩ : BufTy).Contents (Elt F)) (fin V main_cst_12) :=
  fin_unary V 103 rfl (by decide) (by decide)
set_option maxHeartbeats 4000000 in
theorem at_v61 : fin V main_v61 = (Host.divf : (⟨S2048x256, .f32⟩ : BufTy).Contents (Elt F) → (⟨S2048x256, .f32⟩ : BufTy).Contents (Elt F) → (⟨S2048x256, .f32⟩ : BufTy).Contents (Elt F)) (fin V main_v59) (fin V main_v60) :=
  fin_binary V 104 rfl (by decide) (by decide) (by decide)
set_option maxHeartbeats 4000000 in
theorem at_v62 : fin V main_v62 = shapeCast S2048x2048 ((fin V main_v57) : (⟨S1x2048x2048, .f32⟩ : BufTy).Contents (Elt F)) shapeCasts_S1x2048x2048_S2048x2048 :=
  fin_reshape V 105 rfl (by decide) (by decide)

end Cert.ReferenceIdeal.Run

end
-- ==== Proof.Frames.lean ====
/- The frames of the three programs, and what the named constant preserves. The kernel at its own number formats is the idealized kernel read at those formats, the named
   constant being its literal there; so one run serves both. -/
module

public import proofs.«01_k».proof.Defs
public import proofs.«01_k».proof.Proof.Run
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.PureOps.BitExact
public import Idealize.ShloMosaic.Lib.Quiescent

@[expose] public section

noncomputable section

namespace Cert.Frames

open Idealize.ShloMosaic Idealize.ShloMosaic.TcCoe Idealize.SL.Sem

/-- At the machine's own formats a named constant is its literal. -/
local instance literalNames : Named Bits := ⟨fun _ _ {φ} b => FloatOps.ofBits φ b⟩

/-- The kernel's bodies are the idealized kernel's bodies read at the machine's formats. -/
theorem rows_eq : @Cert.Kernel.defs₀ Bits _ _ = @Cert.KernelIdeal.defs₀ Bits _ _ _ := by
  unfold Cert.Kernel.defs₀ Cert.KernelIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- So are the definitions with the pipelines filled in. -/
theorem defs_eq : @Cert.Kernel.defs Bits _ _ = @Cert.KernelIdeal.defs Bits _ _ _ := by
  unfold Cert.Kernel.defs Cert.KernelIdeal.defs
  exact congrArg (Pipeline.defs _) rows_eq

/-- The kernel runs, leaves its arguments as they were, and every semaphore counter at zero. -/
theorem frame_p : Cert.quiescent_Kernel := by
  intro m g _
  have h := Cert.KernelIdeal.Run.values (F := Bits) m g
  rw [← defs_eq] at h
  exact θ_run_mono h fun r h => ⟨fun c => (h.1 c).2, h.2⟩

/-- The idealized kernel likewise. -/
theorem frame_pi : Cert.quiescent_KernelIdeal := fun m g _ =>
  θ_run_mono (Cert.KernelIdeal.Run.values (F := Ideal) m g) fun r h => ⟨fun c => (h.1 c).2, h.2⟩

/-- The reference likewise. -/
theorem frame_ri : Cert.quiescent_ReferenceIdeal := fun m g _ =>
  θ_run_mono (Cert.ReferenceIdeal.Run.run (F := Ideal) m g) fun r h =>
    ⟨fun c => ⟨(h c _).trans (Cert.ReferenceIdeal.Run.fin_arg _ _ (by decide)), (h c _).trans (Cert.ReferenceIdeal.Run.fin_arg _ _ (by decide)),
      (h c _).trans (Cert.ReferenceIdeal.Run.fin_arg _ _ (by decide)), (h c _).trans (Cert.ReferenceIdeal.Run.fin_arg _ _ (by decide)),
      (h c _).trans (Cert.ReferenceIdeal.Run.fin_arg _ _ (by decide)), (h c _).trans (Cert.ReferenceIdeal.Run.fin_arg _ _ (by decide)),
      (h c _).trans (Cert.ReferenceIdeal.Run.fin_arg _ _ (by decide)), (h c _).trans (Cert.ReferenceIdeal.Run.fin_arg _ _ (by decide))⟩,
      sem_eq_zero_of_no_sems (by decide) r.2⟩

/-- The named constant denotes the reciprocal of the natural logarithm of two, and its literal rounds it. -/
theorem preserves : Cert.preserves_Kernel_KernelIdeal :=
  IdealRules.named_const.statement Cert.KernelIdeal.κ "log2e" .f32 0x3FB8AA3B#32 (((Real.log 2)⁻¹ : ℝ) : EReal) rfl

end Cert.Frames

end
-- ==== Proof.Math.lean ====
/- The mathematics both programs compute, over the reals: two layers of graph attention. Beside it, the few facts about
   extended reals that carry a real formula through the programs' operations. -/
module

public import Idealize.ShloMosaic.PureOps.Ideal
public import Idealize.ShloMosaic.PureOps.Ideal.Laws
public import Idealize.ShloMosaic.Lib.IdealHost

@[expose] public section

noncomputable section

namespace Cert.Gat

open Idealize.ShloMosaic

/-! ## The layers over the reals -/

/-- The leaky slope: the real that the programs' literal denotes. -/
def slope : ℝ := 13421773 / 67108864

/-- The leaky rectifier. -/
def lr (t : ℝ) : ℝ := max t (slope * t)

/-- The exponential linear unit. -/
def elu (t : ℝ) : ℝ := if 0 < t then t else Real.exp t - 1

/-- The unnormalised attention weight of node `j` for node `i`, from their scores and the adjacency matrix. -/
def wt (s d : Fin 2048 → ℝ) (a : Fin 2048 → Fin 2048 → ℝ) (i j : Fin 2048) : ℝ := Real.exp (lr (s i + d j)) * a i j

/-- The sum of a row of weights. -/
def den (s d : Fin 2048 → ℝ) (a : Fin 2048 → Fin 2048 → ℝ) (i : Fin 2048) : ℝ := ∑ j, wt s d a i j

/-- The attention weights. -/
def att (s d : Fin 2048 → ℝ) (a : Fin 2048 → Fin 2048 → ℝ) (i j : Fin 2048) : ℝ := wt s d a i j / den s d a i

/-- Column `c` of head `h` in the concatenation of the heads. -/
def col (h : Fin 8) (c : Fin 256) : Fin 2048 := ⟨256 * h.val + c.val, by omega⟩

/-- The arguments as reals. -/
structure Net where
  x : Fin 2048 → Fin 512 → ℝ
  adj : Fin 2048 → Fin 2048 → ℝ
  w1 : Fin 512 → Fin 2048 → ℝ
  a1s : Fin 8 → Fin 256 → ℝ
  a1d : Fin 8 → Fin 256 → ℝ
  w2 : Fin 2048 → Fin 256 → ℝ
  a2s : Fin 256 → ℝ
  a2d : Fin 256 → ℝ

namespace Net

variable (N : Net)

/-- The projected features of head `h`. -/
def wh (h : Fin 8) (n : Fin 2048) (c : Fin 256) : ℝ := ∑ k, N.x n k * N.w1 k (col h c)
/-- The nodes' scores as a source and as a destination. -/
def s1 (h : Fin 8) (n : Fin 2048) : ℝ := ∑ c, N.wh h n c * N.a1s h c
def d1 (h : Fin 8) (n : Fin 2048) : ℝ := ∑ c, N.wh h n c * N.a1d h c
/-- Layer one's attention. -/
def att1 (h : Fin 8) : Fin 2048 → Fin 2048 → ℝ := att (N.s1 h) (N.d1 h) N.adj
/-- Layer one's result, head by head, before and after the activation. -/
def o1 (h : Fin 8) (n : Fin 2048) (c : Fin 256) : ℝ := ∑ j, N.att1 h n j * N.wh h j c
def e1 (h : Fin 8) (n : Fin 2048) (c : Fin 256) : ℝ := elu (N.o1 h n c)
/-- Layer two's projected features, the heads' parts summed. -/
def wh2 (n : Fin 2048) (c : Fin 256) : ℝ := ∑ h : Fin 8, ∑ k : Fin 256, N.e1 h n k * N.w2 (col h k) c
/-- Layer two's scores. -/
def s2 (n : Fin 2048) : ℝ := ∑ c, N.wh2 n c * N.a2s c
def d2 (n : Fin 2048) : ℝ := ∑ c, N.wh2 n c * N.a2d c
/-- Layer two's attention and result. -/
def att2 : Fin 2048 → Fin 2048 → ℝ := att N.s2 N.d2 N.adj
def out (n : Fin 2048) (c : Fin 256) : ℝ := ∑ j, N.att2 n j * N.wh2 j c

/-- The graph: the adjacency matrix holds zeros and ones, and every row a one. -/
structure Graph : Prop where
  bit : ∀ i j, N.adj i j = 0 ∨ N.adj i j = 1
  row : ∀ i, ∃ j, N.adj i j = 1

end Net

/-! ## Facts about the formulas -/

theorem slope_pos : 0 < slope := by unfold slope; norm_num
theorem slope_lt : slope < 1 := by unfold slope; norm_num

/-- The leaky rectifier by cases. -/
theorem lr_eq (t : ℝ) : lr t = if 0 ≤ t then t else slope * t := by
  unfold lr
  have h0 := slope_pos
  have h1 := slope_lt
  split
  · rename_i h; exact max_eq_left (by nlinarith)
  · rename_i h; exact max_eq_right (by nlinarith [not_le.1 h])

/-- The leaky rectifier commutes with a positive factor. -/
theorem lr_mul (c t : ℝ) (hc : 0 ≤ c) : max (t * c) (slope * (t * c)) = lr t * c := by
  unfold lr
  rw [← mul_assoc, max_mul_of_nonneg _ _ hc]

/-- A power of two with a scaled exponent is an exponential. -/
theorem two_rpow_scaled (t : ℝ) : Real.rpow 2 (t * (Real.log 2)⁻¹) = Real.exp t := by
  have h2 : Real.log 2 ≠ 0 := (Real.log_pos (by norm_num)).ne'
  show (2 : ℝ) ^ (t * (Real.log 2)⁻¹) = _
  rw [Real.rpow_def_of_pos (by norm_num)]
  congr 1
  field_simp

variable {s d : Fin 2048 → ℝ} {a : Fin 2048 → Fin 2048 → ℝ}

/-- A row that has a one has a positive sum. -/
theorem den_pos (hb : ∀ i j, a i j = 0 ∨ a i j = 1) (hr : ∀ i, ∃ j, a i j = 1) (i : Fin 2048) : 0 < den s d a i := by
  obtain ⟨j, hj⟩ := hr i
  have hn : ∀ k, 0 ≤ wt s d a i k := fun k => by
    unfold wt
    rcases hb i k with h | h <;> rw [h]
    · simp
    · simpa using (Real.exp_pos _).le
  refine Finset.sum_pos' (fun k _ => hn k) ⟨j, Finset.mem_univ _, ?_⟩
  unfold wt; rw [hj]; simpa using Real.exp_pos _

/-- A softmax shifted by any constant, the entries off the graph left out, is the attention. -/
theorem shifted (hb : ∀ i j, a i j = 0 ∨ a i j = 1) (M : ℝ) (i j : Fin 2048) :
    (if 0 < a i j then Real.exp (lr (s i + d j) - M) else 0) * (1 / ∑ k, if 0 < a i k then Real.exp (lr (s i + d k) - M) else 0) = att s d a i j := by
  have e : ∀ k, (if 0 < a i k then Real.exp (lr (s i + d k) - M) else 0) = wt s d a i k * Real.exp (-M) := fun k => by
    unfold wt
    rcases hb i k with h | h <;> rw [h]
    · simp
    · rw [if_pos one_pos, sub_eq_add_neg, Real.exp_add, mul_one]
  simp only [e, ← Finset.sum_mul]
  unfold att den
  have hM : Real.exp (-M) ≠ 0 := (Real.exp_pos _).ne'
  rw [one_div, mul_inv, div_eq_mul_inv]
  field_simp

/-- The sum over the columns of the concatenation is the sum over the heads and the columns of each. -/
theorem sum_col (f : Fin 2048 → ℝ) : ∑ q, f q = ∑ h : Fin 8, ∑ k : Fin 256, f (col h k) := by
  rw [← Fintype.sum_prod_type' (f := fun h k => f (col h k))]
  exact (Fintype.sum_equiv (finProdFinEquiv (m := 8) (n := 256)) _ _ fun p => by
    congr 1; apply Fin.ext; show 256 * p.1.val + p.2.val = p.2.val + 256 * p.1.val; omega).symm

/-- A sum over the nodes is the sum over four chunks of them. -/
def node (b : Fin 4) (k : Fin 512) : Fin 2048 := ⟨512 * b.val + k.val, by omega⟩
theorem sum_node (f : Fin 2048 → ℝ) : ∑ q, f q = ∑ b : Fin 4, ∑ k : Fin 512, f (node b k) := by
  rw [← Fintype.sum_prod_type' (f := fun h k => f (node h k))]
  exact (Fintype.sum_equiv (finProdFinEquiv (m := 4) (n := 512)) _ _ fun p => by
    congr 1; apply Fin.ext; show 512 * p.1.val + p.2.val = p.2.val + 512 * p.1.val; omega).symm

/-! ## Reals among the extended reals -/

theorem coe_sum {ι : Type} (S : Finset ι) (f : ι → ℝ) : ∑ k ∈ S, ((f k : ℝ) : EReal) = ((∑ k ∈ S, f k : ℝ) : EReal) := by
  classical
  induction S using Finset.induction_on with
  | empty => simp
  | insert x S hx ih => rw [Finset.sum_insert hx, Finset.sum_insert hx, ih, EReal.coe_add]

theorem coe_max (x y : ℝ) : max (x : EReal) (y : EReal) = ((max x y : ℝ) : EReal) :=
  (Monotone.map_max (fun _ _ h => EReal.coe_le_coe_iff.2 h)).symm
theorem coe_min (x y : ℝ) : min (x : EReal) (y : EReal) = ((min x y : ℝ) : EReal) :=
  (Monotone.map_min (fun _ _ h => EReal.coe_le_coe_iff.2 h)).symm

theorem exp_coe (x : ℝ) : Ideal.exp (x : EReal) = ((Real.exp x : ℝ) : EReal) := rfl
theorem exp_bot : Ideal.exp ⊥ = 0 := rfl
theorem exp2_coe (x : ℝ) : Ideal.exp2 (x : EReal) = ((Real.rpow 2 x : ℝ) : EReal) := rfl

/-- The quotient of two reals, the second not zero. -/
theorem div_coe (x y : ℝ) (h : y ≠ 0) : Ideal.div (x : EReal) (y : EReal) = ((x * (1 / y) : ℝ) : EReal) := by
  rw [Ideal.div_coe h, EReal.coe_mul]

/-- The programs' literals. -/
theorem ofBits_slope : Ideal.ofBits .f32 0x3E4CCCCD#32 = ((slope : ℝ) : EReal) := by
  unfold slope
  simp [Ideal.ofBits, Ideal.ieee, -EReal.coe_mul]; norm_num
theorem ofBits_bot : Ideal.ofBits .f32 0xFF800000#32 = (⊥ : EReal) := by
  simp [Ideal.ofBits, Ideal.ieee]
theorem ofBits_top : Ideal.ofBits .f32 0x7F800000#32 = (⊤ : EReal) := by
  simp [Ideal.ofBits, Ideal.ieee]

/-- The greatest of a family some of whose members are reals and the others `⊥` is a real. -/
theorem fold_max {ι : Type} (S : Finset ι) (f : ι → EReal) (hf : ∀ k, f k ≠ ⊤) (k : ι) (hk : k ∈ S) (hk' : f k ≠ ⊥) :
    ∃ M : ℝ, S.fold max ⊥ f = (M : EReal) := by
  have hb : S.fold max ⊥ f ≠ ⊥ := fun h => hk' (le_bot_iff.1 (h ▸ (Finset.le_fold_max _).2 (.inr ⟨k, hk, le_rfl⟩)))
  have ht : S.fold max ⊥ f ≠ ⊤ := fun h => by
    rcases (Finset.le_fold_max _).1 (le_of_eq h.symm) with h' | ⟨x, _, h'⟩
    · exact absurd (le_bot_iff.1 h') (by simp)
    · exact hf x (top_le_iff.1 h')
  exact ⟨(S.fold max ⊥ f).toReal, (EReal.coe_toReal ht hb).symm⟩

/-- A real, or `⊥` off a condition, moved by a real and exponentiated. -/
theorem exp_masked (p : Prop) [Decidable p] (e M : ℝ) :
    Ideal.exp ((if p then (e : EReal) else ⊥) - (M : EReal)) = (((if p then Real.exp (e - M) else 0) : ℝ) : EReal) := by
  split
  · rw [← EReal.coe_sub, exp_coe]
  · rw [EReal.bot_sub, exp_bot, EReal.coe_zero]

end Cert.Gat

end
-- ==== Proof.Pay.lean ====
/- What the payloads of both launches compute over the extended reals, when what they read are reals: the projection and
   the scores of the first launch; the chunk of weights, the row sums, the product with the features, the activation and
   the second projection of the second. -/
module

public import proofs.«01_k».proof.Proof.Second
public import proofs.«01_k».proof.Proof.Math
public import Idealize.ShloMosaic.Lib.Pointwise

@[expose] public section

set_option maxRecDepth 16384

noncomputable section

namespace Cert.KernelIdeal.Pay

open Cert.KernelIdeal.Gen Cert.KernelIdeal.Second Cert.Gat
open Idealize.ShloMosaic Idealize.ShloMosaic.TcCoe Idealize.ShloMosaic.Tactic

/-- The named constant is the reciprocal of the natural logarithm of two. -/
theorem named_eq : Named.named (F := Ideal) κ "log2e" (φ := .f32) 0x3FB8AA3B#32 = (((Real.log 2)⁻¹ : ℝ) : EReal) :=
  IdealRules.named_const.ideal_named_scalar _ _ _ _ rfl

/-! ## The first launch -/

section First

variable {x : Vec Ideal S512x512 .f32} {w : Vec Ideal S512x256 .f32} {p q : Vec Ideal S1x256 .f32}
variable {fx : Fin 512 → Fin 512 → ℝ} {fw : Fin 512 → Fin 256 → ℝ} {fp fq : Fin 256 → ℝ}

/-- The projection. -/
theorem k0_pay2_real (hx : ∀ a b, x (ix2 a b) = (fx a b : EReal)) (hw : ∀ a b, w (ix2 a b) = (fw a b : EReal)) (r : Fin 512) (c : Fin 256) :
    k0_pay2 (F := Ideal) x w (ix2 r c) = ((∑ k, fx r k * fw k c : ℝ) : EReal) := by
  pointwise [k0_pay2]
  simp only [hx, hw, ← EReal.coe_mul, coe_sum]

theorem k0_pay3_real (hx : ∀ a b, x (ix2 a b) = (fx a b : EReal)) (hw : ∀ a b, w (ix2 a b) = (fw a b : EReal)) (a : Fin 1) (r : Fin 512) (c : Fin 256) :
    k0_pay3 (F := Ideal) x w (ix3 a r c) = ((∑ k, fx r k * fw k c : ℝ) : EReal) := by
  pointwise [k0_pay3]
  exact k0_pay2_real hx hw r c

/-- The scores, as sources. -/
theorem k0_pay5_real (hx : ∀ a b, x (ix2 a b) = (fx a b : EReal)) (hw : ∀ a b, w (ix2 a b) = (fw a b : EReal)) (hp : ∀ b, p (ix2 0 b) = (fp b : EReal)) (a : Fin 1) (r : Fin 512) :
    k0_pay5 (F := Ideal) x w p q (ix2 a r) = (((∑ c, (∑ k, fx r k * fw k c) * fp c) * (Real.log 2)⁻¹ : ℝ) : EReal) := by
  pointwise [k0_pay5, k0_pay4]
  simp only [named_eq, k0_pay2_real hx hw, hp, ← EReal.coe_mul, coe_sum]

/-- The scores, as destinations. -/
theorem k0_pay6_real (hx : ∀ a b, x (ix2 a b) = (fx a b : EReal)) (hw : ∀ a b, w (ix2 a b) = (fw a b : EReal)) (hq : ∀ b, q (ix2 0 b) = (fq b : EReal)) (a : Fin 1) (r : Fin 512) :
    k0_pay6 (F := Ideal) x w p q (ix2 a r) = (((∑ c, (∑ k, fx r k * fw k c) * fq c) * (Real.log 2)⁻¹ : ℝ) : EReal) := by
  pointwise [k0_pay6, k0_pay4]
  simp only [named_eq, k0_pay2_real hx hw, hq, ← EReal.coe_mul, coe_sum]

end First

/-! ## A chunk of weights -/

theorem exp2_float (x : ℝ) : FloatOps.exp2 (F := Ideal) (φ := .f32) (x : EReal) = ((Real.rpow 2 x : ℝ) : EReal) := rfl
theorem exp_float (x : ℝ) : FloatOps.exp (F := Ideal) (φ := .f32) (x : EReal) = ((Real.exp x : ℝ) : EReal) := rfl

/-- The weight of column `j` in row `r`, from the row scores, the column scores and the adjacency rows. -/
def W {n : ℕ} (s : Fin 512 → ℝ) (d : Fin n → ℝ) (a : Fin 512 → Fin n → ℝ) (r : Fin 512) (j : Fin n) : ℝ := Real.exp (lr (s r + d j)) * a r j

theorem chunk_real {v9 v16 : Vec Ideal S1x512 .f32} {v28 : Vec Ideal S512x512 .f32} {s d : Fin 512 → ℝ} {a : Fin 512 → Fin 512 → ℝ}
    (hs : ∀ r, v9 (ix2 0 r) = ((s r * (Real.log 2)⁻¹ : ℝ) : EReal)) (hd : ∀ k, v16 (ix2 0 k) = ((d k * (Real.log 2)⁻¹ : ℝ) : EReal))
    (ha : ∀ r k, v28 (ix2 r k) = ((a r k : ℝ) : EReal)) (r k : Fin 512) :
    k1_pay10 (F := Ideal) v9 v16 v28 (ix2 r k) = ((W s d a r k : ℝ) : EReal) := by
  have hL : 0 ≤ (Real.log 2)⁻¹ := (inv_pos.2 (Real.log_pos (by norm_num))).le
  pointwise [k1_pay10, k1_pay9]
  rw [hs, hd, ha, ofBits_slope, ← EReal.coe_add, ← add_mul, ← EReal.coe_mul, coe_max, lr_mul _ _ hL, exp2_float, two_rpow_scaled, ← EReal.coe_mul]
  rfl

/-! ## The row sums and the product with the features -/

section Rows

variable {src : Vec Ideal S1x512 .f32} {dv : Fin 4 → Vec Ideal S1x512 .f32} {av : Fin 4 → Vec Ideal S512x512 .f32}
variable {s : Fin 512 → ℝ} {d : Fin 2048 → ℝ} {a : Fin 512 → Fin 2048 → ℝ}

/-- What the four chunks of a block of rows are read from: the row scores, and chunk by chunk the column scores and the
    adjacency rows. -/
structure Reads (src : Vec Ideal S1x512 .f32) (dv : Fin 4 → Vec Ideal S1x512 .f32) (av : Fin 4 → Vec Ideal S512x512 .f32)
    (s : Fin 512 → ℝ) (d : Fin 2048 → ℝ) (a : Fin 512 → Fin 2048 → ℝ) : Prop where
  src : ∀ r, src (ix2 0 r) = ((s r * (Real.log 2)⁻¹ : ℝ) : EReal)
  dst : ∀ q k, dv q (ix2 0 k) = ((d (node q k) * (Real.log 2)⁻¹ : ℝ) : EReal)
  adj : ∀ q r k, av q (ix2 r k) = ((a r (node q k) : ℝ) : EReal)

theorem Reads.chunk (H : Reads src dv av s d a) (q : Fin 4) (r k : Fin 512) :
    k1_pay10 (F := Ideal) src (dv q) (av q) (ix2 r k) = ((W s d a r (node q k) : ℝ) : EReal) :=
  chunk_real (d := fun k => d (node q k)) (a := fun r k => a r (node q k)) H.src (H.dst q) (H.adj q) r k

/-- A real sum over the nodes, chunk by chunk, as the programs add it. -/
theorem sum_chunks (f : Fin 2048 → ℝ) : ∑ k, f (node 0 k) + ∑ k, f (node 1 k) + ∑ k, f (node 2 k) + ∑ k, f (node 3 k) = ∑ j, f j := by
  rw [sum_node, Fin.sum_univ_four]

theorem Reads.rcp1 (H : Reads src dv av s d a) (hp : ∀ r, ∑ j, W s d a r j ≠ 0) (r : Fin 512) (z : Fin 1) :
    k1_pay25 (F := Ideal) (k1_pay9 src) (k1_pay18 (k1_pay12 src (dv 0) (av 0)) (k1_pay14 (dv 1)) (k1_pay15 src) (av 1))
      (k1_pay20 (k1_pay9 src) (dv 2) (av 2)) (dv 3) (av 3) (ix2 r z) = ((1 / ∑ j, W s d a r j : ℝ) : EReal) := by
  pointwise [k1_pay25, k1_pay18, k1_pay12]
  have e1 : k1_pay16 (F := Ideal) (k1_pay14 (dv 1)) (k1_pay15 src) (av 1) = k1_pay10 src (dv 1) (av 1) := rfl
  have e2 : k1_pay20 (F := Ideal) (k1_pay9 src) (dv 2) (av 2) = k1_pay10 src (dv 2) (av 2) := rfl
  have e3 : k1_pay22 (F := Ideal) (k1_pay9 src) (dv 3) (av 3) = k1_pay10 src (dv 3) (av 3) := rfl
  simp only [e1, e2, e3, H.chunk, coe_sum, zero_add, ← EReal.coe_add, sum_chunks]
  rw [← EReal.coe_one, div_coe _ _ (hp r), one_mul]

theorem Reads.rcp2 (H : Reads src dv av s d a) {sl : Ideal .f32} (hsl : sl = Second.slope) (hp : ∀ r, ∑ j, W s d a r j ≠ 0) (r : Fin 512) (z : Fin 1) :
    k1_pay6 (F := Ideal) (k1_pay28 src) (k1_pay35 (k1_pay28 src) (k1_pay30 src (dv 0) (av 0)) (k1_pay32 src (dv 1)) sl (av 1) (dv 2) (av 2))
      (dv 3) (av 3) (ix2 r z) = ((1 / ∑ j, W s d a r j : ℝ) : EReal) := by
  pointwise [k1_pay6, k1_pay35, k1_pay30]
  have e0 : k1_pay29 (F := Ideal) src (dv 0) (av 0) = k1_pay10 src (dv 0) (av 0) := rfl
  have e1 : k1_pay33 (F := Ideal) (k1_pay32 src (dv 1)) sl (av 1) = k1_pay10 src (dv 1) (av 1) := by rw [hsl]; rfl
  have e2 : k1_pay34 (F := Ideal) (k1_pay28 src) (dv 2) (av 2) = k1_pay10 src (dv 2) (av 2) := rfl
  have e3 : k1_pay5 (F := Ideal) (k1_pay28 src) (dv 3) (av 3) = k1_pay10 src (dv 3) (av 3) := rfl
  simp only [e0, e1, e2, e3, H.chunk, coe_sum, zero_add, ← EReal.coe_add, sum_chunks]
  rw [← EReal.coe_one, div_coe _ _ (hp r), one_mul]

variable {g : Fin 2048 → Fin 256 → ℝ}

theorem Reads.num1 (H : Reads src dv av s d a) {wv : Fin 4 → Vec Ideal S1x512x256 .bf16}
    (hw : ∀ q k c, wv q (ix3 0 k c) = ((g (node q k) c : ℝ) : EReal)) (r : Fin 512) (c : Fin 256) :
    k1_pay24 (F := Ideal) (k1_pay9 src)
      (k1_pay19 (k1_pay13 src (dv 0) (av 0) (wv 0)) (k1_pay14 (dv 1)) (k1_pay15 src) (av 1) (wv 1))
      (k1_pay20 (k1_pay9 src) (dv 2) (av 2)) (wv 2) (dv 3) (av 3) (wv 3) (ix2 r c) = ((∑ j, W s d a r j * g j c : ℝ) : EReal) := by
  pointwise [k1_pay24, k1_pay19, k1_pay13]
  have e1 : k1_pay16 (F := Ideal) (k1_pay14 (dv 1)) (k1_pay15 src) (av 1) = k1_pay10 src (dv 1) (av 1) := rfl
  have e2 : k1_pay20 (F := Ideal) (k1_pay9 src) (dv 2) (av 2) = k1_pay10 src (dv 2) (av 2) := rfl
  have e3 : k1_pay22 (F := Ideal) (k1_pay9 src) (dv 3) (av 3) = k1_pay10 src (dv 3) (av 3) := rfl
  simp only [e1, e2, e3, H.chunk, hw, ← EReal.coe_mul, coe_sum, zero_add, ← EReal.coe_add]
  rw [sum_chunks fun j => W s d a r j * g j c]

theorem Reads.num2 (H : Reads src dv av s d a) {sl : Ideal .f32} (hsl : sl = Second.slope) {wv : Fin 4 → Vec Ideal S512x256 .bf16}
    (hp : ∀ r, ∑ j, W s d a r j ≠ 0) (hw : ∀ q k c, wv q (ix2 k c) = ((g (node q k) c : ℝ) : EReal)) (r : Fin 512) (c : Fin 256) :
    k1_pay8 (F := Ideal) (k1_pay28 src) (k1_pay35 (k1_pay28 src) (k1_pay30 src (dv 0) (av 0)) (k1_pay32 src (dv 1)) sl (av 1) (dv 2) (av 2))
      (k1_pay36 (k1_pay28 src) (k1_pay31 src (dv 0) (av 0) (wv 0)) (k1_pay32 src (dv 1)) sl (av 1) (wv 1) (dv 2) (av 2) (wv 2))
      (dv 3) (av 3) (wv 3) (ix2 r c) = ((∑ j, W s d a r j / (∑ j, W s d a r j) * g j c : ℝ) : EReal) := by
  pointwise [k1_pay8, k1_pay36, k1_pay31]
  have e0 : k1_pay29 (F := Ideal) src (dv 0) (av 0) = k1_pay10 src (dv 0) (av 0) := rfl
  have e1 : k1_pay33 (F := Ideal) (k1_pay32 src (dv 1)) sl (av 1) = k1_pay10 src (dv 1) (av 1) := by rw [hsl]; rfl
  have e2 : k1_pay34 (F := Ideal) (k1_pay28 src) (dv 2) (av 2) = k1_pay10 src (dv 2) (av 2) := rfl
  have e3 : k1_pay5 (F := Ideal) (k1_pay28 src) (dv 3) (av 3) = k1_pay10 src (dv 3) (av 3) := rfl
  simp only [H.rcp2 hsl hp, e0, e1, e2, e3, H.chunk, hw, ← EReal.coe_mul, coe_sum, zero_add, ← EReal.coe_add]
  rw [sum_chunks fun j => W s d a r j * g j c, Finset.sum_mul]
  congr 1
  exact Finset.sum_congr rfl fun j _ => by rw [div_mul_eq_mul_div, mul_one_div]

end Rows

/-! ## The activation and the second projection -/

theorem elu_coe (t : ℝ) : (if (0 : EReal) < (t : EReal) then (t : EReal) else Ideal.exp (min (t : EReal) 0) - 1) = ((elu t : ℝ) : EReal) := by
  unfold elu
  by_cases h : 0 < t
  · rw [if_pos h, if_pos (EReal.coe_pos.2 h)]
  · rw [if_neg h, if_neg (mt EReal.coe_pos.1 h), min_eq_left (EReal.coe_nonpos.2 (not_lt.1 h)), exp_coe, EReal.coe_sub, EReal.coe_one]

theorem pay2_real {num : FVec Ideal S512x256 .f32} {rcp : FVec Ideal S512x1 .f32} {w : Vec Ideal S256x256 .f32}
    {n : Fin 512 → Fin 256 → ℝ} {i : Fin 512 → ℝ} {fw : Fin 256 → Fin 256 → ℝ}
    (hn : ∀ r c, num (ix2 r c) = ((n r c : ℝ) : EReal)) (hi : ∀ r, rcp (ix2 r 0) = ((i r : ℝ) : EReal))
    (hw : ∀ k c, w (ix2 k c) = ((fw k c : ℝ) : EReal)) (r : Fin 512) (c : Fin 256) :
    k1_pay2 (F := Ideal) num rcp w (ix2 r c) = ((∑ k, elu (n r k * i r) * fw k c : ℝ) : EReal) := by
  pointwise [k1_pay2]
  simp only [hn, hi, hw, ← EReal.coe_mul]
  rw [← coe_sum]
  refine Finset.sum_congr rfl fun k _ => ?_
  rw [elu_coe, EReal.coe_mul]

theorem pay3_real {num : FVec Ideal S512x256 .f32} {rcp : FVec Ideal S512x1 .f32} {w : Vec Ideal S256x256 .f32}
    {n : Fin 512 → Fin 256 → ℝ} {i : Fin 512 → ℝ} {fw : Fin 256 → Fin 256 → ℝ}
    (hn : ∀ r c, num (ix2 r c) = ((n r c : ℝ) : EReal)) (hi : ∀ r, rcp (ix2 r 0) = ((i r : ℝ) : EReal))
    (hw : ∀ k c, w (ix2 k c) = ((fw k c : ℝ) : EReal)) (r : Fin 512) (c : Fin 256) :
    k1_pay3 (F := Ideal) num rcp w (ix2 r c) = ((∑ k, elu (n r k * i r) * fw k c : ℝ) : EReal) := by
  pointwise [k1_pay3]
  exact pay2_real hn hi hw r c

theorem pay4_real {num : FVec Ideal S512x256 .f32} {rcp : FVec Ideal S512x1 .f32} {w : Vec Ideal S256x256 .f32}
    {n : Fin 512 → Fin 256 → ℝ} {i : Fin 512 → ℝ} {fw : Fin 256 → Fin 256 → ℝ} {old : FVec Ideal S512x256 .f32} {o : Fin 512 → Fin 256 → ℝ}
    (hn : ∀ r c, num (ix2 r c) = ((n r c : ℝ) : EReal)) (hi : ∀ r, rcp (ix2 r 0) = ((i r : ℝ) : EReal))
    (hw : ∀ k c, w (ix2 k c) = ((fw k c : ℝ) : EReal)) (ho : ∀ r c, old (ix2 r c) = ((o r c : ℝ) : EReal)) (r : Fin 512) (c : Fin 256) :
    k1_pay4 (F := Ideal) num rcp w old (ix2 r c) = ((o r c + ∑ k, elu (n r k * i r) * fw k c : ℝ) : EReal) := by
  pointwise [k1_pay4]
  rw [pay2_real hn hi hw r c, ho, EReal.coe_add]

/-- The second layer's scores: row 0 the sources', row 1 the destinations'. -/
theorem pay26_real {p q : Vec Ideal S1x256 .f32} {x : Vec Ideal S2048x256 .f32} {fp fq : Fin 256 → ℝ} {g : Fin 2048 → Fin 256 → ℝ}
    (hp : ∀ b, p (ix2 0 b) = (fp b : EReal)) (hq : ∀ b, q (ix2 0 b) = (fq b : EReal)) (hx : ∀ n c, x (ix2 n c) = ((g n c : ℝ) : EReal))
    (h : Fin 2) (n : Fin 2048) :
    k1_pay26 (F := Ideal) p q x (ix2 h n) = (((∑ c, g n c * (if h.val < 1 then fp c else fq c)) * (Real.log 2)⁻¹ : ℝ) : EReal) := by
  pointwise [k1_pay26]
  split <;> rename_i h' <;> simp only [named_eq, hp, hq, hx, ← EReal.coe_mul, coe_sum]

/-- The features kept for the second layer. -/
theorem pay27_real {x : Vec Ideal S2048x256 .f32} {g : Fin 2048 → Fin 256 → ℝ} (hx : ∀ n c, x (ix2 n c) = ((g n c : ℝ) : EReal)) (n : Fin 2048) (c : Fin 256) :
    k1_pay27 (F := Ideal) x (ix2 n c) = ((g n c : ℝ) : EReal) := by
  pointwise [k1_pay27]
  exact hx n c

/-- The weights of a block divided by their rows' sums. -/
theorem pay1_real {rcp : FVec Ideal S512x1 .f32} {raw : Vec Ideal S1x512x2048 .f32} {i : Fin 512 → ℝ} {g : Fin 512 → Fin 2048 → ℝ}
    (hi : ∀ r, rcp (ix2 r 0) = ((i r : ℝ) : EReal)) (hr : ∀ r m, raw (ix3 0 r m) = ((g r m : ℝ) : EReal)) (z : Fin 1) (r : Fin 512) (m : Fin 2048) :
    k1_pay1 (F := Ideal) rcp raw (ix3 z r m) = ((g r m * i r : ℝ) : EReal) := by
  pointwise [k1_pay1]
  rw [hr, hi, EReal.coe_mul]

theorem pay7_real {src dst : Vec Ideal S1x512 .f32} {v77 : FVec Ideal S512x1 .f32} {adj : Vec Ideal S512x512 .f32} {raw : Vec Ideal S512x2048 .f32}
    {i : Fin 512 → ℝ} {g : Fin 512 → Fin 2048 → ℝ} (hi : ∀ r z, k1_pay6 (F := Ideal) (k1_pay28 src) v77 dst adj (ix2 r z) = ((i r : ℝ) : EReal))
    (hr : ∀ r m, raw (ix2 r m) = ((g r m : ℝ) : EReal)) (r : Fin 512) (m : Fin 2048) :
    k1_pay7 (F := Ideal) (k1_pay28 src) v77 dst adj raw (ix2 r m) = ((g r m * i r : ℝ) : EReal) := by
  pointwise [k1_pay7]
  rw [hr, hi, EReal.coe_mul]

end Cert.KernelIdeal.Pay

end
-- ==== Proof.Val1.lean ====
/- The arrays the first launch leaves, over the extended reals, when its arguments are reals: every head's projected
   features, and the nodes' scores divided by the natural logarithm of two. -/
module

public import proofs.«01_k».proof.Proof.Pay
public import Idealize.ShloMosaic.Lib.Pipeline.ValueKit

@[expose] public section

set_option maxRecDepth 16384

noncomputable section

namespace Cert.KernelIdeal.Val1

open Cert.KernelIdeal.Gen Cert.KernelIdeal.First Cert.KernelIdeal.Pay Cert.Gat
open Idealize.ShloMosaic Idealize.ShloMosaic.TcCoe Idealize.ShloMosaic.Tactic

variable (V : Entry Ideal) (c : Dev nD) (N : Net)

/-- The launch finds the real arguments. -/
structure Args : Prop where
  x : ∀ y : S2048x512.Idx, V c main_arg0 y = ((N.x (y 0) (y 1) : ℝ) : EReal)
  w1 : ∀ y : S512x2048.Idx, V c main_arg2 y = ((N.w1 (y 0) (y 1) : ℝ) : EReal)
  a1s : ∀ y : S8x256.Idx, V c main_arg3 y = ((N.a1s (y 0) (y 1) : ℝ) : EReal)
  a1d : ∀ y : S8x256.Idx, V c main_arg4 y = ((N.a1d (y 0) (y 1) : ℝ) : EReal)

/-- The block of nodes of a grid point. -/
def blk (t : Fin cfg0.N) : Fin 4 := ⟨t.val, t.isLt⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, t.val, 0] := by decide +kernel
theorem index5 : ∀ t : Fin grid0.N, win0_5.index t = ![0, t.val] := by decide +kernel

variable {V c N}

/-! ## The blocks the points read -/

theorem iblk0 (H : Args V c N) (t : Fin cfg0.N) (y : S512x512.Idx) : iblk V c 0 t y = ((N.x (node (blk t) (y 0)) (y 1) : ℝ) : EReal) := by
  refine (H.x _).trans (congrArg _ (congrArg₂ N.x (Fin.ext ?_) (Fin.ext ?_)))
  · blk_simp [index0 t]
    show t.val * 512 + (y 0).val = 512 * t.val + (y 0).val
    omega
  · blk_simp [index0 t]

theorem iblk1 (H : Args V c N) (t : Fin cfg0.N) (y : S512x2048.Idx) : iblk V c 1 t y = ((N.w1 (y 0) (y 1) : ℝ) : EReal) := by
  refine (H.w1 _).trans (congrArg _ (congrArg₂ N.w1 (Fin.ext ?_) (Fin.ext ?_))) <;> blk_simp [index1 t]

theorem iblk2 (H : Args V c N) (t : Fin cfg0.N) (y : S8x256.Idx) : iblk V c 2 t y = ((N.a1s (y 0) (y 1) : ℝ) : EReal) := by
  refine (H.a1s _).trans (congrArg _ (congrArg₂ N.a1s (Fin.ext ?_) (Fin.ext ?_))) <;> blk_simp [index2 t]

theorem iblk3 (H : Args V c N) (t : Fin cfg0.N) (y : S8x256.Idx) : iblk V c 3 t y = ((N.a1d (y 0) (y 1) : ℝ) : EReal) := by
  refine (H.a1d _).trans (congrArg _ (congrArg₂ N.a1d (Fin.ext ?_) (Fin.ext ?_))) <;> blk_simp [index3 t]

/-! ## The parts of them the body loads -/

theorem ld_x (H : Args V c N) (t : Fin cfg0.N) (a b : Fin 512) :
    View.ld (iblk V c 0 t) r0_0 (ix2 a b) = ((N.x (node (blk t) a) b : ℝ) : EReal) := by
  refine (iblk0 H t _).trans (congrArg _ (congrArg₂ N.x (congrArg _ (Fin.ext ?_)) (Fin.ext ?_)))
  · show 0 + 1 * a.val = a.val; omega
  · show 0 + 1 * b.val = b.val; omega

theorem ld_w (H : Args V c N) (t : Fin cfg0.N) (h : Fin 8) (o : Fin 2 → ℕ) (ho : o = ![0, 256 * h.val]) (inb) (a : Fin 512) (b : Fin 256) :
    View.ld (iblk V c 1 t) (Rect.unit (s := S512x2048) o S512x256.size inb) (ix2 a b) = ((N.w1 a (col h b) : ℝ) : EReal) := by
  subst ho
  refine (iblk1 H t _).trans (congrArg _ (congrArg₂ N.w1 (Fin.ext ?_) (Fin.ext ?_)))
  · show 0 + 1 * a.val = a.val; omega
  · show 256 * h.val + 1 * b.val = 256 * h.val + b.val; omega

theorem ld_s (H : Args V c N) (t : Fin cfg0.N) (h : Fin 8) (o : Fin 2 → ℕ) (ho : o = ![h.val, 0]) (inb) (b : Fin 256) :
    View.ld (iblk V c 2 t) (Rect.unit (s := S8x256) o S1x256.size inb) (ix2 0 b) = ((N.a1s h b : ℝ) : EReal) := by
  subst ho
  refine (iblk2 H t _).trans (congrArg _ (congrArg₂ N.a1s (Fin.ext ?_) (Fin.ext ?_)))
  · show h.val + 1 * 0 = h.val; omega
  · show 0 + 1 * b.val = b.val; omega

theorem ld_d (H : Args V c N) (t : Fin cfg0.N) (h : Fin 8) (o : Fin 2 → ℕ) (ho : o = ![h.val, 0]) (inb) (b : Fin 256) :
    View.ld (iblk V c 3 t) (Rect.unit (s := S8x256) o S1x256.size inb) (ix2 0 b) = ((N.a1d h b : ℝ) : EReal) := by
  subst ho
  refine (iblk3 H t _).trans (congrArg _ (congrArg₂ N.a1d (Fin.ext ?_) (Fin.ext ?_)))
  · show h.val + 1 * 0 = h.val; omega
  · show 0 + 1 * b.val = b.val; omega

/-! ## What the points leave -/

/-- The scores stacked: the heads' source scores, then the heads' destination scores. -/
def score (N : Net) (z : Fin 16) (n : Fin 2048) : ℝ :=
  if h : z.val < 8 then N.s1 ⟨z.val, h⟩ n else N.d1 ⟨z.val - 8, by omega⟩ n

/-- A block of the projected features, and a block of the scores. -/
def G4 (N : Net) (t : Fin cfg0.N) (y : S8x512x256.Idx) : Elt Ideal .bf16 := ((N.wh (y 0) (node (blk t) (y 1)) (y 2) : ℝ) : EReal)
def G5 (N : Net) (t : Fin cfg0.N) (y : S16x512.Idx) : Elt Ideal .f32 := ((score N (y 0) (node (blk t) (y 1)) * (Real.log 2)⁻¹ : ℝ) : EReal)

theorem feature (H : Args V c N) (t : Fin cfg0.N) (h : Fin 8) (o : Fin 2 → ℕ) (ho : o = ![0, 256 * h.val]) (inb) (o' : Fin 3 → ℕ) (ho' : o' = ![h.val, 0, 0]) (inb')
    (x : S1x512x256.Idx) : k0_pay3 (F := Ideal) (View.ld (iblk V c 0 t) r0_0) (View.ld (iblk V c 1 t) (Rect.unit (s := S512x2048) o S512x256.size inb)) x
      = G4 N t ((Rect.unit (s := S8x512x256) o' S1x512x256.size inb').emb x) := by
  subst ho'
  have hx : (x 0).val < 1 := (x 0).isLt
  rw [eq_ix3 x]
  refine (k0_pay3_real (ld_x H t) (ld_w H t h o ho inb) (x 0) (x 1) (x 2)).trans (congrArg _ ?_)
  show N.wh h (node (blk t) (x 1)) (x 2) = N.wh _ (node (blk t) _) _
  refine congr (congrArg₂ N.wh (Fin.ext ?_) (congrArg _ (Fin.ext ?_))) (Fin.ext ?_)
  · show h.val = h.val + 1 * (x 0).val; omega
  · show (x 1).val = 0 + 1 * (x 1).val; omega
  · show (x 2).val = 0 + 1 * (x 2).val; omega

theorem source (H : Args V c N) (t : Fin cfg0.N) (h : Fin 8) (o : Fin 2 → ℕ) (ho : o = ![0, 256 * h.val]) (inb) (u : Fin 2 → ℕ) (hu : u = ![h.val, 0]) (inu)
    (o' : Fin 2 → ℕ) (ho' : o' = ![h.val, 0]) (inb') (x : S1x512.Idx) :
    k0_pay5 (F := Ideal) (View.ld (iblk V c 0 t) r0_0) (View.ld (iblk V c 1 t) (Rect.unit (s := S512x2048) o S512x256.size inb))
        (View.ld (iblk V c 2 t) (Rect.unit (s := S8x256) u S1x256.size inu)) (View.ld (iblk V c 3 t) (Rect.unit (s := S8x256) u S1x256.size inu)) x
      = G5 N t ((Rect.unit (s := S16x512) o' S1x512.size inb').emb x) := by
  subst ho'
  have hx : (x 0).val < 1 := (x 0).isLt
  rw [eq_ix2 x]
  refine (k0_pay5_real (ld_x H t) (ld_w H t h o ho inb) (ld_s H t h u hu inu) (x 0) (x 1)).trans (congrArg _ (congrArg (· * _) ?_))
  unfold score
  have hz : ((Rect.unit (s := S16x512) ![h.val, 0] S1x512.size inb').emb (ix2 (x 0) (x 1)) 0).val = h.val := by
    show h.val + 1 * (x 0).val = h.val; omega
  rw [dif_pos (by omega)]
  refine congrArg₂ N.s1 (Fin.ext hz.symm) (congrArg _ (Fin.ext ?_))
  show (x 1).val = 0 + 1 * (x 1).val; omega

theorem target (H : Args V c N) (t : Fin cfg0.N) (h : Fin 8) (o : Fin 2 → ℕ) (ho : o = ![0, 256 * h.val]) (inb) (u : Fin 2 → ℕ) (hu : u = ![h.val, 0]) (inu)
    (o' : Fin 2 → ℕ) (ho' : o' = ![8 + h.val, 0]) (inb') (x : S1x512.Idx) :
    k0_pay6 (F := Ideal) (View.ld (iblk V c 0 t) r0_0) (View.ld (iblk V c 1 t) (Rect.unit (s := S512x2048) o S512x256.size inb))
        (View.ld (iblk V c 2 t) (Rect.unit (s := S8x256) u S1x256.size inu)) (View.ld (iblk V c 3 t) (Rect.unit (s := S8x256) u S1x256.size inu)) x
      = G5 N t ((Rect.unit (s := S16x512) o' S1x512.size inb').emb x) := by
  subst ho'
  have hx : (x 0).val < 1 := (x 0).isLt
  rw [eq_ix2 x]
  refine (k0_pay6_real (ld_x H t) (ld_w H t h o ho inb) (ld_d H t h u hu inu) (x 0) (x 1)).trans (congrArg _ (congrArg (· * _) ?_))
  unfold score
  have hz : ((Rect.unit (s := S16x512) ![8 + h.val, 0] S1x512.size inb').emb (ix2 (x 0) (x 1)) 0).val = 8 + h.val := by
    show 8 + h.val + 1 * (x 0).val = 8 + h.val; omega
  rw [dif_neg (by omega)]
  refine congrArg₂ N.d1 (Fin.ext ?_) (congrArg _ (Fin.ext ?_))
  · show h.val = _ - 8; omega
  · show (x 1).val = 0 + 1 * (x 1).val; omega

theorem out4 (H : Args V c N) (t : Fin cfg0.N) (y : S8x512x256.Idx) :
    out0_4 (iblk V c 0 t) (iblk V c 1 t) (iblk V c 2 t) (iblk V c 3 t) y = G4 N t y := by
  unfold out0_4
  refine View.canon_apply_of_pieces (G4 N t) _ ?_ y (cover0_4 _ _ _ _ _ _ _ _ y)
  simp only [List.forall_mem_cons, List.not_mem_nil, false_imp_iff, implies_true, and_true]
  exact ⟨feature H t 7 _ rfl _ _ rfl _, feature H t 6 _ rfl _ _ rfl _, feature H t 5 _ rfl _ _ rfl _, feature H t 4 _ rfl _ _ rfl _,
    feature H t 3 _ rfl _ _ rfl _, feature H t 2 _ rfl _ _ rfl _, feature H t 1 _ rfl _ _ rfl _, feature H t 0 _ rfl _ _ rfl _⟩

theorem out5 (H : Args V c N) (t : Fin cfg0.N) (y : S16x512.Idx) :
    out0_5 (iblk V c 0 t) (iblk V c 1 t) (iblk V c 2 t) (iblk V c 3 t) y = G5 N t y := by
  unfold out0_5
  refine View.canon_apply_of_pieces (G5 N t) _ ?_ y (cover0_5 _ _ _ _ _ _ _ _ _ _ _ _ _ _ _ _ y)
  simp only [List.forall_mem_cons, List.not_mem_nil, false_imp_iff, implies_true, and_true]
  exact ⟨target H t 7 _ rfl _ _ rfl _ _ rfl _, source H t 7 _ rfl _ _ rfl _ _ rfl _, target H t 6 _ rfl _ _ rfl _ _ rfl _, source H t 6 _ rfl _ _ rfl _ _ rfl _,
    target H t 5 _ rfl _ _ rfl _ _ rfl _, source H t 5 _ rfl _ _ rfl _ _ rfl _, target H t 4 _ rfl _ _ rfl _ _ rfl _, source H t 4 _ rfl _ _ rfl _ _ rfl _,
    target H t 3 _ rfl _ _ rfl _ _ rfl _, source H t 3 _ rfl _ _ rfl _ _ rfl _, target H t 2 _ rfl _ _ rfl _ _ rfl _, source H t 2 _ rfl _ _ rfl _ _ rfl _,
    target H t 1 _ rfl _ _ rfl _ _ rfl _, source H t 1 _ rfl _ _ rfl _ _ rfl _, target H t 0 _ rfl _ _ rfl _ _ rfl _, source H t 0 _ rfl _ _ rfl _ _ rfl _⟩

end Cert.KernelIdeal.Val1

end
-- ==== Proof.Arr1.lean ====
/- The arrays the first launch leaves, over the extended reals, put together from the blocks its points leave. -/
module

public import proofs.«01_k».proof.Proof.Val1

@[expose] public section

set_option maxRecDepth 16384

noncomputable section

namespace Cert.KernelIdeal.Val1

open Cert.KernelIdeal.Gen Cert.KernelIdeal.First Cert.KernelIdeal.Pay Cert.Gat
open Idealize.ShloMosaic Idealize.ShloMosaic.TcCoe Idealize.ShloMosaic.Tactic

variable {V : Entry Ideal} {c : Dev nD} {N : Net}

/-- The two arrays as the formulas give them. -/
def A4 (N : Net) (y : S8x2048x256.Idx) : Elt Ideal .bf16 := ((N.wh (y 0) (y 1) (y 2) : ℝ) : EReal)
def A5 (N : Net) (y : S16x2048.Idx) : Elt Ideal .f32 := ((score N (y 0) (y 1) * (Real.log 2)⁻¹ : ℝ) : EReal)

/-- Every head's projected features. -/
theorem features (H : Args V c N) : (First.dat V c).arrAt 4 cfg0.N = A4 N := by
  refine (First.dat V c).arrAt_eq_of_covers 4 (A4 N) (by decide +kernel) fun t hf y => ?_
  blk_simp
  rw [after0_4, out4 H t]
  show ((N.wh _ _ _ : ℝ) : EReal) = ((N.wh _ _ _ : ℝ) : EReal)
  refine congrArg _ (congr (congrArg₂ N.wh (Fin.ext ?_) (Fin.ext ?_)) (Fin.ext ?_)) <;> blk_simp [index4 t]
  show 512 * t.val + (y 1).val = t.val * 512 + (y 1).val; omega

/-- The nodes' scores, as sources and as destinations. -/
theorem scores (H : Args V c N) : (First.dat V c).arrAt 5 cfg0.N = A5 N := by
  refine (First.dat V c).arrAt_eq_of_covers 5 (A5 N) (by decide +kernel) fun t hf y => ?_
  blk_simp
  rw [after0_5, out5 H t]
  show ((score N _ _ * _ : ℝ) : EReal) = ((score N _ _ * _ : ℝ) : EReal)
  refine congrArg _ (congrArg (· * _) (congrArg₂ (score N) (Fin.ext ?_) (Fin.ext ?_))) <;> blk_simp [index5 t]
  show 512 * t.val + (y 1).val = t.val * 512 + (y 1).val; omega

end Cert.KernelIdeal.Val1

end
-- ==== Proof.Val2.lean ====
/- What the points of the second launch leave, over the extended reals, when the launch finds the reals the first one
   leaves: the blocks of attention weights of every head, the accumulator of the second layer's features, and the blocks
   of attention weights and of the result of the second layer. -/
module

public import proofs.«01_k».proof.Proof.Val1
public import proofs.«01_k».proof.Proof.Points

@[expose] public section

set_option maxRecDepth 16384

noncomputable section

namespace Cert.KernelIdeal.Val2

open Cert.KernelIdeal.Gen Cert.KernelIdeal.Second Cert.KernelIdeal.Points Cert.KernelIdeal.Pay Cert.Gat
open Cert.KernelIdeal.First (Entry)
open Cert.KernelIdeal.Val1 (score)
open Idealize.ShloMosaic Idealize.ShloMosaic.TcCoe Idealize.ShloMosaic.Tactic

variable (V : Entry Ideal) (c : Dev nD) (N : Net)

/-- The launch finds the real arguments and what the first launch left. -/
structure Args : Prop where
  graph : N.Graph
  adj : ∀ y : S2048x2048.Idx, V c main_arg1 y = ((N.adj (y 0) (y 1) : ℝ) : EReal)
  wh : ∀ y : S8x2048x256.Idx, V c main_v0_0 y = ((N.wh (y 0) (y 1) (y 2) : ℝ) : EReal)
  sd : ∀ y : S16x2048.Idx, V c main_v0_1 y = ((score N (y 0) (y 1) * (Real.log 2)⁻¹ : ℝ) : EReal)
  w2 : ∀ y : S2048x256.Idx, V c main_arg5 y = ((N.w2 (y 0) (y 1) : ℝ) : EReal)
  a2s : ∀ y : S1x256.Idx, V c main_v1 y = ((N.a2s (y 1) : ℝ) : EReal)
  a2d : ∀ y : S1x256.Idx, V c main_v2 y = ((N.a2d (y 1) : ℝ) : EReal)

/-! ## The schedule -/

/-- The head of a point of layer one, and a point's block of rows. -/
def hd (t : Fin cfg1.N) (ht : t.val < 32) : Fin 8 := ⟨t.val / 4, by omega⟩
def bk (t : Fin cfg1.N) : Fin 4 := ⟨t.val % 4, Nat.mod_lt _ (by decide)⟩

theorem index0 : ∀ t : Fin grid1.N, win1_0.index t = ![0, 0] := by decide +kernel
theorem index1 : ∀ t : Fin grid1.N, win1_1.index t = ![min (t.val / 4) 7, 0, 0] := by decide +kernel
theorem index2 : ∀ t : Fin grid1.N, win1_2.index t = ![0, 0] := by decide +kernel
theorem index3 : ∀ t : Fin grid1.N, win1_3.index t = ![0, 0] := by decide +kernel
theorem index4 : ∀ t : Fin grid1.N, win1_4.index t = ![0, 0] := by decide +kernel
theorem index5 : ∀ t : Fin grid1.N, win1_5.index t = ![0, 0] := by decide +kernel

theorem off1 : ∀ t : Fin cfg1.N, k1_off1 (grid1.coords t) = ![t.val / 4, 512 * (t.val % 4)] := by decide +kernel
theorem off2 : ∀ t : Fin cfg1.N, k1_off2 (grid1.coords t) = ![8 + t.val / 4, 512 * 0] := by decide +kernel
theorem off4 : ∀ t : Fin cfg1.N, k1_off4 (grid1.coords t) = ![8 + t.val / 4, 512 * 1] := by decide +kernel
theorem off6 : ∀ t : Fin cfg1.N, k1_off6 (grid1.coords t) = ![8 + t.val / 4, 512 * 2] := by decide +kernel
theorem off8 : ∀ t : Fin cfg1.N, k1_off8 (grid1.coords t) = ![8 + t.val / 4, 512 * 3] := by decide +kernel
theorem off3 : ∀ t : Fin cfg1.N, k1_off3 (grid1.coords t) = ![512 * (t.val % 4), 512 * 0] := by decide +kernel
theorem off5 : ∀ t : Fin cfg1.N, k1_off5 (grid1.coords t) = ![512 * (t.val % 4), 512 * 1] := by decide +kernel
theorem off7 : ∀ t : Fin cfg1.N, k1_off7 (grid1.coords t) = ![512 * (t.val % 4), 512 * 2] := by decide +kernel
theorem off9 : ∀ t : Fin cfg1.N, k1_off9 (grid1.coords t) = ![512 * (t.val % 4), 512 * 3] := by decide +kernel
theorem off10 : ∀ t : Fin cfg1.N, k1_off10 (grid1.coords t) = ![256 * (t.val / 4), 0] := by decide +kernel
theorem off13 : ∀ t : Fin cfg1.N, k1_off13 (grid1.coords t) = ![0, 512 * (t.val % 4)] := by decide +kernel
theorem off14 : ∀ t : Fin cfg1.N, k1_off14 (grid1.coords t) = ![512 * (t.val % 4), 512 * 0] := by decide +kernel
theorem off15 : ∀ t : Fin cfg1.N, k1_off15 (grid1.coords t) = ![512 * (t.val % 4), 512 * 1] := by decide +kernel
theorem off16 : ∀ t : Fin cfg1.N, k1_off16 (grid1.coords t) = ![512 * (t.val % 4), 512 * 2] := by decide +kernel
theorem off17 : ∀ t : Fin cfg1.N, k1_off17 (grid1.coords t) = ![512 * (t.val % 4), 512 * 3] := by decide +kernel

variable {V c N}

/-! ## The blocks the points read -/

theorem iblk0 (H : Args V c N) (t : Fin cfg1.N) (y : S2048x2048.Idx) : iblk V c 0 t y = ((N.adj (y 0) (y 1) : ℝ) : EReal) := by
  refine (H.adj _).trans (congrArg _ (congrArg₂ N.adj (Fin.ext ?_) (Fin.ext ?_))) <;> blk_simp [index0 t]

theorem iblk1 (H : Args V c N) (t : Fin cfg1.N) (ht : t.val < 32) (y : S1x2048x256.Idx) : iblk V c 1 t y = ((N.wh (hd t ht) (y 1) (y 2) : ℝ) : EReal) := by
  refine (H.wh _).trans (congrArg _ ?_)
  show N.wh _ _ _ = N.wh _ _ _
  have h0 : (y 0).val < 1 := (y 0).isLt
  refine congr (congrArg₂ N.wh (Fin.ext ?_) (Fin.ext ?_)) (Fin.ext ?_) <;> blk_simp [index1 t]
  show min (t.val / 4) 7 = t.val / 4; omega

theorem iblk2 (H : Args V c N) (t : Fin cfg1.N) (y : S16x2048.Idx) : iblk V c 2 t y = ((score N (y 0) (y 1) * (Real.log 2)⁻¹ : ℝ) : EReal) := by
  refine (H.sd _).trans (congrArg _ (congrArg (· * _) (congrArg₂ (score N) (Fin.ext ?_) (Fin.ext ?_)))) <;> blk_simp [index2 t]

theorem iblk3 (H : Args V c N) (t : Fin cfg1.N) (y : S2048x256.Idx) : iblk V c 3 t y = ((N.w2 (y 0) (y 1) : ℝ) : EReal) := by
  refine (H.w2 _).trans (congrArg _ (congrArg₂ N.w2 (Fin.ext ?_) (Fin.ext ?_))) <;> blk_simp [index3 t]

theorem iblk4 (H : Args V c N) (t : Fin cfg1.N) (b : Fin 256) : iblk V c 4 t (ix2 0 b) = ((N.a2s b : ℝ) : EReal) := by
  refine (H.a2s _).trans (congrArg _ (congrArg N.a2s (Fin.ext ?_))); blk_simp [index4 t]

theorem iblk5 (H : Args V c N) (t : Fin cfg1.N) (b : Fin 256) : iblk V c 5 t (ix2 0 b) = ((N.a2d b : ℝ) : EReal) := by
  refine (H.a2d _).trans (congrArg _ (congrArg N.a2d (Fin.ext ?_))); blk_simp [index5 t]

/-! ## The parts of them the body loads -/

theorem ld_adj (H : Args V c N) (t : Fin cfg1.N) (b q : Fin 4) (o : Fin 2 → ℕ) (ho : o = ![512 * b.val, 512 * q.val]) (inb) (r k : Fin 512) :
    View.ld (iblk V c 0 t) (Rect.unit (s := S2048x2048) o S512x512.size inb) (ix2 r k) = ((N.adj (node b r) (node q k) : ℝ) : EReal) := by
  subst ho
  refine (iblk0 H t _).trans (congrArg _ (congrArg₂ N.adj (Fin.ext ?_) (Fin.ext ?_)))
  · show 512 * b.val + 1 * r.val = 512 * b.val + r.val; omega
  · show 512 * q.val + 1 * k.val = 512 * q.val + k.val; omega

theorem ld_wh (H : Args V c N) (t : Fin cfg1.N) (ht : t.val < 32) (q : Fin 4) (o : Fin 3 → ℕ) (ho : o = ![0, 512 * q.val, 0]) (inb) (k : Fin 512) (b : Fin 256) :
    View.ld (iblk V c 1 t) (Rect.unit (s := S1x2048x256) o S1x512x256.size inb) (ix3 0 k b) = ((N.wh (hd t ht) (node q k) b : ℝ) : EReal) := by
  subst ho
  refine (iblk1 H t ht _).trans (congrArg _ (congrArg₂ (N.wh (hd t ht)) (Fin.ext ?_) (Fin.ext ?_)))
  · show 512 * q.val + 1 * k.val = 512 * q.val + k.val; omega
  · show 0 + 1 * b.val = b.val; omega

theorem ld_sd (H : Args V c N) (t : Fin cfg1.N) (z : Fin 16) (q : Fin 4) (o : Fin 2 → ℕ) (ho : o = ![z.val, 512 * q.val]) (inb) (k : Fin 512) :
    View.ld (iblk V c 2 t) (Rect.unit (s := S16x2048) o S1x512.size inb) (ix2 0 k) = ((score N z (node q k) * (Real.log 2)⁻¹ : ℝ) : EReal) := by
  subst ho
  refine (iblk2 H t _).trans (congrArg _ (congrArg (· * _) (congrArg₂ (score N) (Fin.ext ?_) (Fin.ext ?_))))
  · show z.val + 1 * 0 = z.val; omega
  · show 512 * q.val + 1 * k.val = 512 * q.val + k.val; omega

theorem ld_src (H : Args V c N) (t : Fin cfg1.N) (h : Fin 8) (q : Fin 4) (o : Fin 2 → ℕ) (ho : o = ![h.val, 512 * q.val]) (inb) (k : Fin 512) :
    View.ld (iblk V c 2 t) (Rect.unit (s := S16x2048) o S1x512.size inb) (ix2 0 k) = ((N.s1 h (node q k) * (Real.log 2)⁻¹ : ℝ) : EReal) := by
  refine (ld_sd H t ⟨h.val, by omega⟩ q o ho inb k).trans (congrArg _ (congrArg (· * _) ?_))
  unfold score; exact dif_pos h.isLt

theorem ld_dst (H : Args V c N) (t : Fin cfg1.N) (h : Fin 8) (q : Fin 4) (o : Fin 2 → ℕ) (ho : o = ![8 + h.val, 512 * q.val]) (inb) (k : Fin 512) :
    View.ld (iblk V c 2 t) (Rect.unit (s := S16x2048) o S1x512.size inb) (ix2 0 k) = ((N.d1 h (node q k) * (Real.log 2)⁻¹ : ℝ) : EReal) := by
  refine (ld_sd H t ⟨8 + h.val, by omega⟩ q o ho inb k).trans (congrArg _ (congrArg (· * _) ?_))
  unfold score
  rw [dif_neg (by show ¬ 8 + h.val < 8; omega)]
  exact congrArg (fun z => N.d1 z _) (Fin.ext (by show 8 + h.val - 8 = h.val; omega))

theorem ld_w2 (H : Args V c N) (t : Fin cfg1.N) (h : Fin 8) (o : Fin 2 → ℕ) (ho : o = ![256 * h.val, 0]) (inb) (k b : Fin 256) :
    View.ld (iblk V c 3 t) (Rect.unit (s := S2048x256) o S256x256.size inb) (ix2 k b) = ((N.w2 (col h k) b : ℝ) : EReal) := by
  subst ho
  refine (iblk3 H t _).trans (congrArg _ (congrArg₂ N.w2 (Fin.ext ?_) (Fin.ext ?_)))
  · show 256 * h.val + 1 * k.val = 256 * h.val + k.val; omega
  · show 0 + 1 * b.val = b.val; omega

/-! ## A point of layer one -/

section Head

variable (H : Args V c N) (t : Fin cfg1.N) (ht : t.val < 32)

/-- The chunks of destination scores, adjacency rows and features, as families. -/
abbrev dsts : Fin 4 → Vec Ideal S1x512 .f32 :=
  ![dst1_0 (grid1.coords t) ((cond1_iff t).mpr ht) (iblk V c 2 t), dst1_1 (grid1.coords t) ((cond1_iff t).mpr ht) (iblk V c 2 t),
    dst1_2 (grid1.coords t) ((cond1_iff t).mpr ht) (iblk V c 2 t), dst1_3 (grid1.coords t) ((cond1_iff t).mpr ht) (iblk V c 2 t)]
abbrev adjs : Fin 4 → Vec Ideal S512x512 .f32 :=
  ![adj1_0 (grid1.coords t) ((cond1_iff t).mpr ht) (iblk V c 0 t), adj1_1 (grid1.coords t) ((cond1_iff t).mpr ht) (iblk V c 0 t),
    adj1_2 (grid1.coords t) ((cond1_iff t).mpr ht) (iblk V c 0 t), adj1_3 (grid1.coords t) ((cond1_iff t).mpr ht) (iblk V c 0 t)]
abbrev whs : Fin 4 → Vec Ideal S1x512x256 .bf16 :=
  ![wh1_0 (iblk V c 1 t), wh1_1 (iblk V c 1 t), wh1_2 (iblk V c 1 t), wh1_3 (iblk V c 1 t)]

include H

theorem reads1 : Reads (src1 (grid1.coords t) ((cond1_iff t).mpr ht) (iblk V c 2 t)) (dsts t ht (V := V) (c := c)) (adjs t ht (V := V) (c := c))
    (fun r => N.s1 (hd t ht) (node (bk t) r)) (N.d1 (hd t ht)) (fun r j => N.adj (node (bk t) r) j) where
  src := ld_src H t (hd t ht) (bk t) _ (off1 t) _
  dst := fun q => by
    fin_cases q
    · exact ld_dst H t (hd t ht) 0 _ (off2 t) _
    · exact ld_dst H t (hd t ht) 1 _ (off4 t) _
    · exact ld_dst H t (hd t ht) 2 _ (off6 t) _
    · exact ld_dst H t (hd t ht) 3 _ (off8 t) _
  adj := fun q => by
    fin_cases q
    · exact ld_adj H t (bk t) 0 _ (off3 t) _
    · exact ld_adj H t (bk t) 1 _ (off5 t) _
    · exact ld_adj H t (bk t) 2 _ (off7 t) _
    · exact ld_adj H t (bk t) 3 _ (off9 t) _

theorem whs_eq (q : Fin 4) : ∀ k b, whs t (V := V) (c := c) q (ix3 0 k b) = ((N.wh (hd t ht) (node q k) b : ℝ) : EReal) := by
  fin_cases q
  · exact ld_wh H t ht 0 _ rfl _
  · exact ld_wh H t ht 1 _ rfl _
  · exact ld_wh H t ht 2 _ rfl _
  · exact ld_wh H t ht 3 _ rfl _

theorem den1_ne (h : Fin 8) (b : Fin 4) (r : Fin 512) : ∑ j, W (fun r => N.s1 h (node b r)) (N.d1 h) (fun r j => N.adj (node b r) j) r j ≠ 0 :=
  (den_pos (s := N.s1 h) (d := N.d1 h) H.graph.bit H.graph.row (node b r)).ne'

theorem rcpAt_eq (r : Fin 512) : rcpAt V c t ht (ix2 r 0) = ((1 / den (N.s1 (hd t ht)) (N.d1 (hd t ht)) N.adj (node (bk t) r) : ℝ) : EReal) :=
  (reads1 H t ht).rcp1 (den1_ne H (hd t ht) (bk t)) r 0

theorem numAt_eq (r : Fin 512) (b : Fin 256) :
    numAt V c t ht (ix2 r b) = ((∑ j, wt (N.s1 (hd t ht)) (N.d1 (hd t ht)) N.adj (node (bk t) r) j * N.wh (hd t ht) j b : ℝ) : EReal) :=
  (reads1 H t ht).num1 (whs_eq H t ht) r b

theorem w2At_eq (k b : Fin 256) : w2At V c t ht (ix2 k b) = ((N.w2 (col (hd t ht) k) b : ℝ) : EReal) :=
  ld_w2 H t (hd t ht) _ (off10 t) _ k b

omit H in
/-- The block of weights of a point. -/
def G1 (N : Net) (t : Fin cfg1.N) (ht : t.val < 32) (y : S1x512x2048.Idx) : Elt Ideal .f32 :=
  ((wt (N.s1 (hd t ht)) (N.d1 (hd t ht)) N.adj (node (bk t) (y 1)) (y 2) : ℝ) : EReal)

/-- One chunk of it. -/
theorem piece1 (q : Fin 4) (o : Fin 3 → ℕ) (ho : o = ![0, 0, 512 * q.val]) (inb) (x : S1x512x512.Idx) :
    k1_pay11 (F := Ideal) (src1 (grid1.coords t) ((cond1_iff t).mpr ht) (iblk V c 2 t)) (dsts t ht (V := V) (c := c) q) (adjs t ht (V := V) (c := c) q) x
      = G1 N t ht ((Rect.unit (s := S1x512x2048) o S1x512x512.size inb).emb x) := by
  subst ho
  obtain ⟨z, r, k, rfl⟩ : ∃ z r k, x = ix3 z r k := ⟨_, _, _, eq_ix3 x⟩
  have e : k1_pay11 (F := Ideal) (src1 (grid1.coords t) ((cond1_iff t).mpr ht) (iblk V c 2 t)) (dsts t ht (V := V) (c := c) q) (adjs t ht (V := V) (c := c) q) (ix3 z r k)
      = k1_pay10 (src1 (grid1.coords t) ((cond1_iff t).mpr ht) (iblk V c 2 t)) (dsts t ht (V := V) (c := c) q) (adjs t ht (V := V) (c := c) q) (ix2 r k) := by
    pointwise [k1_pay11]
  refine e.trans (((reads1 H t ht).chunk q r k).trans (congrArg _ ?_))
  show wt _ _ _ (node (bk t) r) (node q k) = wt _ _ _ (node (bk t) _) _
  refine congrArg₂ (wt _ _ _) (congrArg _ (Fin.ext ?_)) (Fin.ext ?_)
  · show r.val = 0 + 1 * r.val; omega
  · show 512 * q.val + k.val = 512 * q.val + 1 * k.val; omega

theorem raw1_eq (r : Fin 512) (m : Fin 2048) : raw1 (grid1.coords t) ((cond1_iff t).mpr ht) (iblk V c 0 t) (iblk V c 2 t) (ix3 0 r m)
    = ((wt (N.s1 (hd t ht)) (N.d1 (hd t ht)) N.adj (node (bk t) r) m : ℝ) : EReal) := by
  unfold raw1
  refine View.canon_apply_of_pieces (G1 N t ht) _ ?_ (ix3 0 r m) (cover_raw1 _ _ _ _ _)
  simp only [List.forall_mem_cons, List.not_mem_nil, false_imp_iff, implies_true, and_true]
  exact ⟨piece1 H t ht 3 _ rfl _, piece1 H t ht 2 _ rfl _, piece1 H t ht 1 _ rfl _, piece1 H t ht 0 _ rfl _⟩

/-- The block of attention weights. -/
theorem att1At_eq (z : Fin 1) (r : Fin 512) (m : Fin 2048) : att1At V c t ht (ix3 z r m) = ((N.att1 (hd t ht) (node (bk t) r) m : ℝ) : EReal) := by
  refine (pay1_real (rcpAt_eq H t ht) (raw1_eq H t ht) z r m).trans (congrArg _ ?_)
  show wt _ _ _ _ _ * (1 / den _ _ _ _) = wt _ _ _ _ _ / den _ _ _ _
  rw [mul_one_div]

omit H in
/-- The head's result before the activation, as the body forms it. -/
theorem result1 (h : Fin 8) (n : Fin 2048) (b : Fin 256) :
    (∑ j, wt (N.s1 h) (N.d1 h) N.adj n j * N.wh h j b) * (1 / den (N.s1 h) (N.d1 h) N.adj n) = N.o1 h n b := by
  rw [Finset.sum_mul]
  exact Finset.sum_congr rfl fun j _ => by
    show wt _ _ _ _ _ * _ * _ = wt _ _ _ _ _ / den _ _ _ _ * _
    rw [div_mul_eq_mul_div, mul_one_div]

end Head

/-! ## The accumulator -/

/-- Head `h`'s part of the second layer's features. -/
def part (N : Net) (h : ℕ) (n : Fin 2048) (b : Fin 256) : ℝ := if hh : h < 8 then ∑ k, N.e1 ⟨h, hh⟩ n k * N.w2 (col ⟨h, hh⟩ k) b else 0

theorem part_at (h : ℕ) (hh : h < 8) (b : Fin 4) (r : Fin 512) (m : Fin 256) :
    ∑ k, elu ((∑ j, wt (N.s1 ⟨h, hh⟩) (N.d1 ⟨h, hh⟩) N.adj (node b r) j * N.wh ⟨h, hh⟩ j k) * (1 / den (N.s1 ⟨h, hh⟩) (N.d1 ⟨h, hh⟩) N.adj (node b r))) * N.w2 (col ⟨h, hh⟩ k) m
      = part N h (node b r) m := by
  unfold part; rw [dif_pos hh]
  exact Finset.sum_congr rfl fun k _ => by rw [result1]; rfl

/-- The accumulator's block of rows `b` after head `h` sums the heads' parts up to `h`. -/
theorem accV_eq (H : Args V c N) (b : Fin 4) (h : ℕ) (hh : h < 8) (r : Fin 512) (m : Fin 256) :
    accV V c b h (ix2 r m) = ((∑ h' ∈ Finset.range (h + 1), part N h' (node b r) m : ℝ) : EReal) := by
  have step : ∀ (h : ℕ) (hh : h < 8), hd (pt h b hh) (pt_lt _ _ _) = ⟨h, hh⟩ ∧ bk (pt h b hh) = b := fun h hh =>
    ⟨Fin.ext (by show (4 * h + b.val) / 4 = h; omega), Fin.ext (by show (4 * h + b.val) % 4 = b.val; omega)⟩
  induction h generalizing r m with
  | zero =>
    refine (pay3_real (numAt_eq H _ _) (rcpAt_eq H _ _) (w2At_eq H _ _) r m).trans (congrArg _ ?_)
    rw [(step 0 hh).1, (step 0 hh).2, part_at, Finset.sum_range_one]
  | succ h ih =>
    have e : accV V c b (h + 1) = k1_pay4 (numAt V c (pt (h + 1) b hh) (pt_lt _ _ _)) (rcpAt V c (pt (h + 1) b hh) (pt_lt _ _ _)) (w2At V c (pt (h + 1) b hh) (pt_lt _ _ _)) (accV V c b h) := dif_pos hh
    rw [e]
    refine (pay4_real (numAt_eq H _ _) (rcpAt_eq H _ _) (w2At_eq H _ _) (ih (by omega)) r m).trans (congrArg _ ?_)
    rw [(step (h + 1) hh).1, (step (h + 1) hh).2, part_at, ← Finset.sum_range_succ]

/-- After the last head the accumulator holds the second layer's features, -/
theorem accEnd_eq (H : Args V c N) (n : Fin 2048) (m : Fin 256) : accEnd V c (ix2 n m) = ((N.wh2 n m : ℝ) : EReal) := by
  have hb : n.val / 512 < 4 := by omega
  have e : accEnd V c (ix2 n m) = accV V c ⟨n.val / 512, hb⟩ ((32 - 1 - n.val / 512) / 4) (ix2 ⟨n.val % 512, Nat.mod_lt _ (by decide)⟩ m) :=
    congrArg (accV V c ⟨n.val / 512, hb⟩ ((32 - 1 - n.val / 512) / 4)) (eq_ix2 _)
  have e7 : (32 - 1 - n.val / 512) / 4 = 7 := by omega
  have en : node ⟨n.val / 512, hb⟩ ⟨n.val % 512, Nat.mod_lt _ (by decide)⟩ = n := Fin.ext (by show 512 * (n.val / 512) + n.val % 512 = n.val; omega)
  rw [e, e7, accV_eq H _ 7 (by decide), en, Finset.sum_range]
  refine congrArg _ (Finset.sum_congr rfl fun h _ => ?_)
  unfold part; exact dif_pos h.isLt

/-- the scratch buffers its scores and itself. -/
theorem sd2End_eq (H : Args V c N) (z : Fin 2) (n : Fin 2048) :
    sd2End V c (ix2 z n) = (((if z.val < 1 then N.s2 n else N.d2 n) * (Real.log 2)⁻¹ : ℝ) : EReal) := by
  refine (pay26_real (iblk4 H _) (iblk5 H _) (accEnd_eq H) z n).trans (congrArg _ (congrArg (· * _) ?_))
  split <;> rfl

theorem whbEnd_eq (H : Args V c N) (n : Fin 2048) (m : Fin 256) : whbEnd V c (ix2 n m) = ((N.wh2 n m : ℝ) : EReal) :=
  pay27_real (accEnd_eq H) n m

/-! ## A point of layer two -/

theorem ld_sd2 (H : Args V c N) (z : Fin 2) (q : Fin 4) (o : Fin 2 → ℕ) (ho : o = ![z.val, 512 * q.val]) (inb) (k : Fin 512) :
    View.ld (sd2End V c) (Rect.unit (s := S2x2048) o S1x512.size inb) (ix2 0 k)
      = (((if z.val < 1 then N.s2 (node q k) else N.d2 (node q k)) * (Real.log 2)⁻¹ : ℝ) : EReal) := by
  subst ho
  have e : (Rect.unit (s := S2x2048) ![z.val, 512 * q.val] S1x512.size inb).emb (ix2 0 k) = ix2 z (node q k) :=
    (eq_ix2 _).trans (congrArg₂ ix2 (Fin.ext (by show z.val + 1 * 0 = z.val; omega)) (Fin.ext (by show 512 * q.val + 1 * k.val = 512 * q.val + k.val; omega)))
  exact (congrArg (sd2End V c) e).trans (sd2End_eq H z _)

theorem ld_wb (H : Args V c N) (q : Fin 4) (o : Fin 2 → ℕ) (ho : o = ![512 * q.val, 0]) (inb) (k : Fin 512) (b : Fin 256) :
    View.ld (whbEnd V c) (Rect.unit (s := S2048x256) o S512x256.size inb) (ix2 k b) = ((N.wh2 (node q k) b : ℝ) : EReal) := by
  subst ho
  have e : (Rect.unit (s := S2048x256) ![512 * q.val, 0] S512x256.size inb).emb (ix2 k b) = ix2 (node q k) b :=
    (eq_ix2 _).trans (congrArg₂ ix2 (Fin.ext (by show 512 * q.val + 1 * k.val = 512 * q.val + k.val; omega)) (Fin.ext (by show 0 + 1 * b.val = b.val; omega)))
  exact (congrArg (whbEnd V c) e).trans (whbEnd_eq H _ _)

section Last

variable (H : Args V c N) (t : Fin cfg1.N) (ht : 32 ≤ t.val)

/-- The chunks of destination scores, adjacency rows and features, as families. -/
abbrev dsts2 : Fin 4 → Vec Ideal S1x512 .f32 := ![dst2_0 (sd2End V c), dst2_1 (sd2End V c), dst2_2 (sd2End V c), dst2_3 (sd2End V c)]
abbrev adjs2 : Fin 4 → Vec Ideal S512x512 .f32 :=
  ![adj2_0 (grid1.coords t) ((cond4_iff t).mpr ht) (iblk V c 0 t), adj2_1 (grid1.coords t) ((cond4_iff t).mpr ht) (iblk V c 0 t),
    adj2_2 (grid1.coords t) ((cond4_iff t).mpr ht) (iblk V c 0 t), adj2_3 (grid1.coords t) ((cond4_iff t).mpr ht) (iblk V c 0 t)]
abbrev wbs : Fin 4 → Vec Ideal S512x256 .bf16 := ![wb_0 (whbEnd V c), wb_1 (whbEnd V c), wb_2 (whbEnd V c), wb_3 (whbEnd V c)]

include H

theorem reads2 : Reads (src2 (grid1.coords t) ((cond4_iff t).mpr ht) (sd2End V c)) (dsts2 (V := V) (c := c)) (adjs2 t ht (V := V) (c := c))
    (fun r => N.s2 (node (bk t) r)) N.d2 (fun r j => N.adj (node (bk t) r) j) where
  src := ld_sd2 H 0 (bk t) _ (off13 t) _
  dst := fun q => by
    fin_cases q
    · exact ld_sd2 H 1 0 _ rfl _
    · exact ld_sd2 H 1 1 _ rfl _
    · exact ld_sd2 H 1 2 _ rfl _
    · exact ld_sd2 H 1 3 _ rfl _
  adj := fun q => by
    fin_cases q
    · exact ld_adj H t (bk t) 0 _ (off14 t) _
    · exact ld_adj H t (bk t) 1 _ (off15 t) _
    · exact ld_adj H t (bk t) 2 _ (off16 t) _
    · exact ld_adj H t (bk t) 3 _ (off17 t) _

theorem wbs_eq (q : Fin 4) : ∀ k b, wbs (V := V) (c := c) q (ix2 k b) = ((N.wh2 (node q k) b : ℝ) : EReal) := by
  fin_cases q
  · exact ld_wb H 0 _ rfl _
  · exact ld_wb H 1 _ rfl _
  · exact ld_wb H 2 _ rfl _
  · exact ld_wb H 3 _ rfl _

theorem den2_ne (b : Fin 4) (r : Fin 512) : ∑ j, W (fun r => N.s2 (node b r)) N.d2 (fun r j => N.adj (node b r) j) r j ≠ 0 :=
  (den_pos (s := N.s2) (d := N.d2) H.graph.bit H.graph.row (node b r)).ne'

omit H in
/-- The block of weights of a point. -/
def G2 (N : Net) (t : Fin cfg1.N) (y : S512x2048.Idx) : Elt Ideal .f32 := ((wt N.s2 N.d2 N.adj (node (bk t) (y 0)) (y 1) : ℝ) : EReal)

/-- One chunk of it. -/
theorem piece2 (q : Fin 4) (o : Fin 2 → ℕ) (ho : o = ![0, 512 * q.val]) (inb) (x : S512x512.Idx) :
    k1_pay10 (F := Ideal) (src2 (grid1.coords t) ((cond4_iff t).mpr ht) (sd2End V c)) (dsts2 (V := V) (c := c) q) (adjs2 t ht (V := V) (c := c) q) x
      = G2 N t ((Rect.unit (s := S512x2048) o S512x512.size inb).emb x) := by
  subst ho
  obtain ⟨r, k, rfl⟩ : ∃ r k, x = ix2 r k := ⟨_, _, eq_ix2 x⟩
  refine ((reads2 H t ht).chunk q r k).trans (congrArg _ ?_)
  show wt _ _ _ (node (bk t) r) (node q k) = wt _ _ _ (node (bk t) _) _
  refine congrArg₂ (wt _ _ _) (congrArg _ (Fin.ext ?_)) (Fin.ext ?_)
  · show r.val = 0 + 1 * r.val; omega
  · show 512 * q.val + k.val = 512 * q.val + 1 * k.val; omega

theorem raw2_eq (y : S512x2048.Idx) : raw2 (grid1.coords t) ((cond4_iff t).mpr ht) (iblk V c 0 t) (sd2End V c) y = G2 N t y := by
  unfold raw2
  refine View.canon_apply_of_pieces (G2 N t) _ ?_ y (cover_raw2 _ _ _ _ _)
  simp only [List.forall_mem_cons, List.not_mem_nil, false_imp_iff, implies_true, and_true]
  exact ⟨piece2 H t ht 3 _ rfl _, piece2 H t ht 2 _ rfl _, piece2 H t ht 1 _ rfl _, piece2 H t ht 0 _ rfl _⟩

/-- The block of attention weights. -/
theorem att2At_eq (r : Fin 512) (m : Fin 2048) : att2At V c t ht (ix2 r m) = ((N.att2 (node (bk t) r) m : ℝ) : EReal) := by
  refine (pay7_real ((reads2 H t ht).rcp2 rfl (den2_ne H (bk t))) (fun r m => raw2_eq H t ht (ix2 r m)) r m).trans (congrArg _ ?_)
  exact mul_one_div _ _

/-- The block of rows of the result. -/
theorem out2At_eq (r : Fin 512) (m : Fin 256) : out2At V c t ht (ix2 r m) = ((N.out (node (bk t) r) m : ℝ) : EReal) :=
  (reads2 H t ht).num2 rfl (den2_ne H (bk t)) (wbs_eq H) r m

end Last

end Cert.KernelIdeal.Val2

end
-- ==== Proof.Arr2.lean ====
/- The arrays the second launch leaves, over the extended reals, put together from the blocks its points leave. -/
module

public import proofs.«01_k».proof.Proof.Val2

@[expose] public section

set_option maxRecDepth 16384

noncomputable section

namespace Cert.KernelIdeal.Val2

open Cert.KernelIdeal.Gen Cert.KernelIdeal.Second Cert.KernelIdeal.Points Cert.KernelIdeal.Pay Cert.Gat
open Cert.KernelIdeal.First (Entry)
open Idealize.ShloMosaic Idealize.ShloMosaic.TcCoe Idealize.ShloMosaic.Tactic

variable {V : Entry Ideal} {c : Dev nD} {N : Net}

/-- The three arrays as the formulas give them. -/
def A6 (N : Net) (y : S8x2048x2048.Idx) : Elt Ideal .f32 := ((N.att1 (y 0) (y 1) (y 2) : ℝ) : EReal)
def A7 (N : Net) (y : S2048x2048.Idx) : Elt Ideal .f32 := ((N.att2 (y 0) (y 1) : ℝ) : EReal)
def A8 (N : Net) (y : S2048x256.Idx) : Elt Ideal .f32 := ((N.out (y 0) (y 1) : ℝ) : EReal)

/-- The block each window takes at a point. -/
theorem index6 : ∀ t : Fin grid1.N, win1_6.index t = ![min t.val 31 / 4, min t.val 31 % 4, 0] := by decide +kernel
theorem index7 : ∀ t : Fin grid1.N, win1_7.index t = ![max t.val 32 % 4, 0] := by decide +kernel
theorem index8 : ∀ t : Fin grid1.N, win1_8.index t = ![max t.val 32 % 4, 0] := by decide +kernel

/-- The blocks a point leaves, at any index. -/
theorem att1At_idx (H : Args V c N) (t : Fin cfg1.N) (ht : t.val < 32) (y : S1x512x2048.Idx) :
    att1At V c t ht y = ((N.att1 (hd t ht) (node (bk t) (y 1)) (y 2) : ℝ) : EReal) :=
  (congrArg (att1At V c t ht) (eq_ix3 y)).trans (att1At_eq H t ht _ _ _)
theorem att2At_idx (H : Args V c N) (t : Fin cfg1.N) (ht : 32 ≤ t.val) (y : S512x2048.Idx) :
    att2At V c t ht y = ((N.att2 (node (bk t) (y 0)) (y 1) : ℝ) : EReal) :=
  (congrArg (att2At V c t ht) (eq_ix2 y)).trans (att2At_eq H t ht _ _)
theorem out2At_idx (H : Args V c N) (t : Fin cfg1.N) (ht : 32 ≤ t.val) (y : S512x256.Idx) :
    out2At V c t ht y = ((N.out (node (bk t) (y 0)) (y 1) : ℝ) : EReal) :=
  (congrArg (out2At V c t ht) (eq_ix2 y)).trans (out2At_eq H t ht _ _)

/-- The first layer's attention weights. -/
theorem weights1 (H : Args V c N) : (dat V c).arrAt 6 cfg1.N = A6 N := by
  refine (dat V c).arrAt_eq_of_covers 6 (A6 N) (by decide +kernel) fun t hf y => ?_
  blk_simp
  rw [after1_6, att1At_idx H]
  show ((N.att1 _ _ _ : ℝ) : EReal) = ((N.att1 _ _ _ : ℝ) : EReal)
  refine congrArg _ (congr (congr (congrArg N.att1 (Fin.ext ?_)) (Fin.ext ?_)) (Fin.ext ?_)) <;> blk_simp [index6 t]
  · rfl
  · show 512 * (min t.val 31 % 4) + (y 1).val = min t.val 31 % 4 * 512 + (y 1).val; omega

/-- The second layer's attention weights. -/
theorem weights2 (H : Args V c N) : (dat V c).arrAt 7 cfg1.N = A7 N := by
  refine (dat V c).arrAt_eq_of_covers 7 (A7 N) (by decide +kernel) fun t hf y => ?_
  blk_simp
  rw [after1_7, att2At_idx H]
  show ((N.att2 _ _ : ℝ) : EReal) = ((N.att2 _ _ : ℝ) : EReal)
  refine congrArg _ (congr (congrArg N.att2 (Fin.ext ?_)) (Fin.ext ?_)) <;> blk_simp [index7 t]
  show 512 * (max t.val 32 % 4) + (y 0).val = max t.val 32 % 4 * 512 + (y 0).val; omega

/-- The network's result. -/
theorem result2 (H : Args V c N) : (dat V c).arrAt 8 cfg1.N = A8 N := by
  refine (dat V c).arrAt_eq_of_covers 8 (A8 N) (by decide +kernel) fun t hf y => ?_
  blk_simp
  rw [after1_8, out2At_idx H]
  show ((N.out _ _ : ℝ) : EReal) = ((N.out _ _ : ℝ) : EReal)
  refine congrArg _ (congr (congrArg N.out (Fin.ext ?_)) (Fin.ext ?_)) <;> blk_simp [index8 t]
  show 512 * (max t.val 32 % 4) + (y 0).val = max t.val 32 % 4 * 512 + (y 0).val; omega

end Cert.KernelIdeal.Val2

end
-- ==== Proof.RVal.lean ====
/- What the reference computes, over the extended reals, as the formulas over the reals. -/
module

public import proofs.«01_k».proof.Proof.RefRun
public import proofs.«01_k».proof.Proof.Math
public import Idealize.ShloMosaic.Lib.Tactic
public import Idealize.ShloMosaic.Lib.Pointwise
public import Idealize.ShloMosaic.Lib.ReduceAll

@[expose] public section

set_option maxRecDepth 16384

noncomputable section

namespace Cert.ReferenceIdeal.RVal

open Cert.ReferenceIdeal Cert.ReferenceIdeal.Run Cert.ReferenceIdeal.Facts₀ Cert.ReferenceIdeal.Facts Cert.Gat
open Idealize.ShloMosaic Idealize.ShloMosaic.TcCoe Idealize.ShloMosaic.Tactic Idealize.ShloMosaic.StableHlo

variable {V : Valuation τ sig (Elt Ideal)} {N : Net}

/-- The arguments are the network's reals. -/
structure Args (V : Valuation τ sig (Elt Ideal)) (N : Net) : Prop where
  graph : N.Graph
  x : ∀ y : S2048x512.Idx, V main_arg0 y = ((N.x (y 0) (y 1) : ℝ) : EReal)
  adj : ∀ y : S2048x2048.Idx, V main_arg1 y = ((N.adj (y 0) (y 1) : ℝ) : EReal)
  w1 : ∀ y : S512x2048.Idx, V main_arg2 y = ((N.w1 (y 0) (y 1) : ℝ) : EReal)
  a1s : ∀ y : S8x256.Idx, V main_arg3 y = ((N.a1s (y 0) (y 1) : ℝ) : EReal)
  a1d : ∀ y : S8x256.Idx, V main_arg4 y = ((N.a1d (y 0) (y 1) : ℝ) : EReal)
  w2 : ∀ y : S2048x256.Idx, V main_arg5 y = ((N.w2 (y 0) (y 1) : ℝ) : EReal)
  a2s : ∀ y : S256.Idx, V main_arg6 y = ((N.a2s (y 0) : ℝ) : EReal)
  a2d : ∀ y : S256.Idx, V main_arg7 y = ((N.a2d (y 0) : ℝ) : EReal)

/-- A row's greatest entry, as the host's reduction over the last axis takes it. -/
theorem max8 (x : FVec Ideal S8x2048x2048 .f32) (h : Fin 8) (i : Fin 2048) :
    Host.reduce FloatOps.maximumf x (constant S_ .f32 0xFF800000#32) reducesTo_S8x2048x2048_S8x2048_d2 h_S_ (ix2 h i)
      = Finset.univ.fold max (⊥ : EReal) (fun k : Fin 2048 => x (ix3 h i k)) := by
  pointwise
  rw [ofBits_bot]
theorem max1 (x : FVec Ideal S1x2048x2048 .f32) (h : Fin 1) (i : Fin 2048) :
    Host.reduce FloatOps.maximumf x (constant S_ .f32 0xFF800000#32) reducesTo_S1x2048x2048_S1x2048_d2 h_S_ (ix2 h i)
      = Finset.univ.fold max (⊥ : EReal) (fun k : Fin 2048 => x (ix3 h i k)) := by
  obtain rfl : h = 0 := Subsingleton.elim _ _
  pointwise
  rw [ofBits_bot]

/-- Where its entries are known, the row's greatest is theirs. -/
theorem max8_of (x : FVec Ideal S8x2048x2048 .f32) (h : Fin 8) (i : Fin 2048) (g : Fin 2048 → EReal) (M : EReal)
    (hx : ∀ k, x (ix3 h i k) = g k) (hM : Finset.univ.fold max (⊥ : EReal) g = M) :
    Host.reduce FloatOps.maximumf x (constant S_ .f32 0xFF800000#32) reducesTo_S8x2048x2048_S8x2048_d2 h_S_ (ix2 h i) = M := by
  rw [max8, funext hx]; exact hM
theorem max1_of (x : FVec Ideal S1x2048x2048 .f32) (h : Fin 1) (i : Fin 2048) (g : Fin 2048 → EReal) (M : EReal)
    (hx : ∀ k, x (ix3 h i k) = g k) (hM : Finset.univ.fold max (⊥ : EReal) g = M) :
    Host.reduce FloatOps.maximumf x (constant S_ .f32 0xFF800000#32) reducesTo_S1x2048x2048_S1x2048_d2 h_S_ (ix2 h i) = M := by
  rw [max1, funext hx]; exact hM

/-- The greater of `⊥` and an entry is the entry. -/
theorem floor8 (y : FVec Ideal S8x2048 .f32) (h : Fin 8) (i : Fin 2048) :
    maximumf (broadcastInDim S8x2048 ![] bcast_S_S8x2048 (constant (F := Ideal) S_ .f32 0xFF800000#32)) y (ix2 h i) = y (ix2 h i) := by
  pointwise
  rw [ofBits_bot]
  exact max_eq_right (bot_le (α := EReal))
theorem floor1 (y : FVec Ideal S1x2048 .f32) (h : Fin 1) (i : Fin 2048) :
    maximumf (broadcastInDim S1x2048 ![] bcast_S_S1x2048 (constant (F := Ideal) S_ .f32 0xFF800000#32)) y (ix2 h i) = y (ix2 h i) := by
  obtain rfl : h = 0 := Subsingleton.elim _ _
  pointwise
  rw [ofBits_bot]
  exact max_eq_right (bot_le (α := EReal))

/-- A row of scores masked to the graph, the entries off it `⊥`, has a real as its greatest entry. -/
theorem row_max {a : Fin 2048 → Fin 2048 → ℝ} (hr : ∀ i, ∃ j, a i j = 1) (e : Fin 2048 → ℝ) (i : Fin 2048) :
    ∃ M : ℝ, Finset.univ.fold max (⊥ : EReal) (fun k : Fin 2048 => if 0 < a i k then ((e k : ℝ) : EReal) else ⊥) = (M : EReal) := by
  obtain ⟨j, hj⟩ := hr i
  refine fold_max _ _ (fun k => ?_) j (Finset.mem_univ _) ?_
  · split
    · exact EReal.coe_ne_top _
    · exact bot_ne_top
  · rw [hj, if_pos one_pos]; exact EReal.coe_ne_bot _

/-- A row's exponentials divided by their sum are the attention weights. -/
theorem row_att {s d : Fin 2048 → ℝ} {a : Fin 2048 → Fin 2048 → ℝ} (hb : ∀ i j, a i j = 0 ∨ a i j = 1) (hr : ∀ i, ∃ j, a i j = 1)
    (M : ℝ) (i j : Fin 2048) :
    Ideal.div (((if 0 < a i j then Real.exp (lr (s i + d j) - M) else 0 : ℝ)) : EReal)
      (∑ k, (((if 0 < a i k then Real.exp (lr (s i + d k) - M) else 0 : ℝ)) : EReal)) = ((att s d a i j : ℝ) : EReal) := by
  rw [coe_sum, div_coe, shifted hb]
  obtain ⟨j, hj⟩ := hr i
  refine (Finset.sum_pos' (fun k _ => ?_) ⟨j, Finset.mem_univ _, ?_⟩).ne'
  · split
    · exact (Real.exp_pos _).le
    · exact le_rfl
  · rw [hj, if_pos one_pos]; exact Real.exp_pos _

/-- The leaky rectifier as the reference spells it. -/
theorem leaky (t : ℝ) : (if 0 ≤ (t : EReal) then (t : EReal) else Ideal.ofBits .f32 0x3E4CCCCD#32 * (t : EReal)) = ((lr t : ℝ) : EReal) := by
  rw [ofBits_slope, lr_eq, ← EReal.coe_mul, ← EReal.coe_zero]
  simp only [EReal.coe_le_coe_iff]
  split <;> rfl

/-- The masked entry as the reference spells it. -/
theorem masked (a t : ℝ) : (if 0 < (a : EReal) then (t : EReal) else Ideal.ofBits .f32 0xFF800000#32) = if 0 < a then (t : EReal) else ⊥ := by
  rw [ofBits_bot, ← EReal.coe_zero]
  simp only [EReal.coe_lt_coe_iff]

/-- The exponential linear unit as the reference spells it. -/
theorem activated (t z : EReal) (x : ℝ) (ht : t = (x : EReal)) : (if 0 < t then t else Ideal.exp (if 0 < t then z else t) - 1) = ((elu x : ℝ) : EReal) := by
  subst ht
  unfold elu
  rw [← EReal.coe_zero]
  simp only [EReal.coe_lt_coe_iff]
  split
  · rfl
  · rw [exp_coe, ← EReal.coe_one, ← EReal.coe_sub]

/-- A sum of reals. -/
theorem sum_real {ι : Type} [Fintype ι] (f : ι → EReal) (g : ι → ℝ) (h : ∀ k, f k = ((g k : ℝ) : EReal)) : ∑ k, f k = ((∑ k, g k : ℝ) : EReal) :=
  (Finset.sum_congr rfl fun k _ => h k).trans (coe_sum _ _)

/-- The mean of one. -/
theorem mean_one (f : Fin 1 → EReal) (x : ℝ) (h : ∀ z, f z = (x : EReal)) : Ideal.div (∑ z, f z) 1 = (x : EReal) := by
  rw [Fin.sum_univ_one, h, ← EReal.coe_one, div_coe _ _ one_ne_zero, one_div_one, mul_one]

section
variable (H : Args V N)
include H

/-! ## Layer one -/

theorem r_v0 (n q : Fin 2048) : fin V main_v0 (ix2 n q) = ((∑ k, N.x n k * N.w1 k q : ℝ) : EReal) := by
  rw [at_v0, fin_arg V main_arg0 (by decide), fin_arg V main_arg2 (by decide)]
  pointwise
  exact sum_real _ _ fun k => by rw [H.x, H.w1, ← EReal.coe_mul]; rfl

/-- The projected features. -/
theorem r_v2 (h : Fin 8) (n : Fin 2048) (c : Fin 256) : fin V main_v2 (ix3 h n c) = ((N.wh h n c : ℝ) : EReal) := by
  rw [at_v2, at_v1]
  pointwise
  rw [show (⟨h.val * 256 + c.val, by omega⟩ : Fin 2048) = col h c from Fin.ext (by show h.val * 256 + c.val = 256 * h.val + c.val; omega)]
  exact r_v0 H n _

/-- The scores. -/
theorem r_v3 (h : Fin 8) (n : Fin 2048) : fin V main_v3 (ix2 h n) = ((N.s1 h n : ℝ) : EReal) := by
  rw [at_v3, fin_arg V main_arg3 (by decide)]
  pointwise
  unfold Net.s1
  exact sum_real _ _ fun k => by rw [r_v2 H, H.a1s, ← EReal.coe_mul]; rfl
theorem r_v4 (h : Fin 8) (n : Fin 2048) : fin V main_v4 (ix2 h n) = ((N.d1 h n : ℝ) : EReal) := by
  rw [at_v4, fin_arg V main_arg4 (by decide)]
  pointwise
  unfold Net.d1
  exact sum_real _ _ fun k => by rw [r_v2 H, H.a1d, ← EReal.coe_mul]; rfl

theorem r_v9 (h : Fin 8) (i j : Fin 2048) : fin V main_v9 (ix3 h i j) = ((N.s1 h i + N.d1 h j : ℝ) : EReal) := by
  rw [at_v9, at_v8, at_v7, at_v6, at_v5]
  pointwise
  rw [r_v3 H, r_v4 H, EReal.coe_add]

/-- Their rectified sums, -/
theorem r_v10 (h : Fin 8) (i j : Fin 2048) : fin V main_v10 (ix3 h i j) = ((lr (N.s1 h i + N.d1 h j) : ℝ) : EReal) := by
  rw [at_v10, at_call0_v1, at_call0_v4, at_call0_v3, at_call0_v2, at_cst, at_call0_v0, at_call0_cst]
  pointwise
  rw [r_v9 H]
  exact leaky _

/-- masked to the graph, -/
theorem r_v14 (h : Fin 8) (i j : Fin 2048) :
    fin V main_v14 (ix3 h i j) = if 0 < N.adj i j then ((lr (N.s1 h i + N.d1 h j) : ℝ) : EReal) else ⊥ := by
  rw [at_v14, at_call1_v0, at_call1_v1, at_v13, at_v12, at_v11, at_cst_0, at_cst_1, fin_arg V main_arg1 (by decide)]
  pointwise
  rw [r_v10 H, H.adj]
  exact masked _ _

/-- the greatest of each row, -/
theorem r_v15 (h : Fin 8) (i : Fin 2048) (M : EReal)
    (hM : Finset.univ.fold max (⊥ : EReal) (fun k : Fin 2048 => if 0 < N.adj i k then ((lr (N.s1 h i + N.d1 h k) : ℝ) : EReal) else ⊥) = M) :
    fin V main_v15 (ix2 h i) = M := by
  rw [at_v15, at_cst_2]
  exact max8_of (fin V main_v14) h i _ _ (r_v14 H h i) hM

theorem r_v17 (h : Fin 8) (i : Fin 2048) : ∃ M : ℝ, fin V main_v17 (ix2 h i) = (M : EReal) := by
  obtain ⟨M, hM⟩ := row_max (a := N.adj) H.graph.row (fun j => lr (N.s1 h i + N.d1 h j)) i
  refine ⟨M, ?_⟩
  rw [at_v17, at_v16, at_cst_3]
  exact (floor8 (fin V main_v15) h i).trans (r_v15 H h i M hM)

/-- the exponentials, -/
theorem r_v21 (h : Fin 8) (i j : Fin 2048) (M : ℝ) (hM : fin V main_v17 (ix2 h i) = (M : EReal)) :
    fin V main_v21 (ix3 h i j) = (((if 0 < N.adj i j then Real.exp (lr (N.s1 h i + N.d1 h j) - M) else 0) : ℝ) : EReal) := by
  rw [at_v21, at_v20, at_v19, at_v18]
  pointwise
  rw [hM, r_v14 H]
  exact exp_masked _ _ _

/-- and the attention weights. -/
theorem r_v25 (h : Fin 8) (i j : Fin 2048) : fin V main_v25 (ix3 h i j) = ((N.att1 h i j : ℝ) : EReal) := by
  obtain ⟨M, hM⟩ := r_v17 H h i
  rw [at_v25, at_v24, at_v23, at_v22, at_cst_4]
  pointwise
  simp only [r_v21 H h i _ M hM]
  exact row_att H.graph.bit H.graph.row M i j

/-- The layer's result, the heads' columns side by side, -/
theorem r_v28 (n : Fin 2048) (h : Fin 8) (c : Fin 256) : fin V main_v28 (ix2 n (col h c)) = ((N.o1 h n c : ℝ) : EReal) := by
  rw [at_v28, at_v27, at_v26]
  pointwise
  have eh : ∀ p, (⟨(col h c).val / 256, p⟩ : Fin 8) = h := fun p => Fin.ext (by show (256 * h.val + c.val) / 256 = h.val; omega)
  have ec : ∀ p, (⟨(col h c).val % 256, p⟩ : Fin 256) = c := fun p => Fin.ext (by show (256 * h.val + c.val) % 256 = c.val; omega)
  unfold Net.o1
  exact sum_real _ _ fun k => by rw [eh, ec, r_v25 H, r_v2 H, EReal.coe_mul]

/-- and activated. -/
theorem r_v29 (n : Fin 2048) (h : Fin 8) (c : Fin 256) : fin V main_v29 (ix2 n (col h c)) = ((N.e1 h n c : ℝ) : EReal) := by
  rw [at_v29, at_call2_v1, at_call2_v0, at_call2_cst, at_call2_v7, at_call2_v6, at_call2_cst_2, at_call2_v5, at_call2_v4, at_call2_v3,
    at_call2_v2, at_call2_cst_0, at_call2_call0_v1, at_call2_call0_v0, at_call2_cst_1]
  pointwise
  exact activated _ _ _ (r_v28 H n h c)

/-! ## Layer two -/

/-- The projected features. -/
theorem r_v32 (n : Fin 2048) (c : Fin 256) : fin V main_v32 (ix2 n c) = ((N.wh2 n c : ℝ) : EReal) := by
  rw [at_v32, fin_arg V main_arg5 (by decide)]
  pointwise
  refine (sum_real _ (fun q : Fin 2048 => N.e1 ⟨q.val / 256, by omega⟩ n ⟨q.val % 256, Nat.mod_lt _ (by decide)⟩ * N.w2 q c) fun q => ?_).trans
    (congrArg _ ((sum_col _).trans ?_))
  · have eq : q = col ⟨q.val / 256, by omega⟩ ⟨q.val % 256, Nat.mod_lt _ (by decide)⟩ :=
      Fin.ext (by show q.val = 256 * (q.val / 256) + q.val % 256; omega)
    have e1 := r_v29 H n ⟨q.val / 256, by omega⟩ ⟨q.val % 256, Nat.mod_lt _ (by decide)⟩
    rw [← eq] at e1
    rw [e1, H.w2, ← EReal.coe_mul]; rfl
  unfold Net.wh2
  refine Finset.sum_congr rfl fun h _ => Finset.sum_congr rfl fun k _ => congrArg (· * _) ?_
  exact congr (congrArg (fun h => N.e1 h n) (Fin.ext (by show (256 * h.val + k.val) / 256 = h.val; omega))) (Fin.ext (by show (256 * h.val + k.val) % 256 = k.val; omega))

theorem r_v34 (z : Fin 1) (n : Fin 2048) (c : Fin 256) : fin V main_v34 (ix3 z n c) = ((N.wh2 n c : ℝ) : EReal) := by
  rw [at_v34, at_v33]
  pointwise
  exact r_v32 H n c

/-- The scores. -/
theorem r_v35 (z : Fin 1) (n : Fin 2048) : fin V main_v35 (ix2 z n) = ((N.s2 n : ℝ) : EReal) := by
  rw [at_v35, at_v30, fin_arg V main_arg6 (by decide)]
  pointwise
  unfold Net.s2
  exact sum_real _ _ fun k => by rw [r_v34 H, H.a2s, ← EReal.coe_mul]; rfl
theorem r_v36 (z : Fin 1) (n : Fin 2048) : fin V main_v36 (ix2 z n) = ((N.d2 n : ℝ) : EReal) := by
  rw [at_v36, at_v31, fin_arg V main_arg7 (by decide)]
  pointwise
  unfold Net.d2
  exact sum_real _ _ fun k => by rw [r_v34 H, H.a2d, ← EReal.coe_mul]; rfl

theorem r_v41 (z : Fin 1) (i j : Fin 2048) : fin V main_v41 (ix3 z i j) = ((N.s2 i + N.d2 j : ℝ) : EReal) := by
  rw [at_v41, at_v40, at_v39, at_v38, at_v37]
  pointwise
  rw [r_v35 H, r_v36 H, EReal.coe_add]

/-- Their rectified sums, -/
theorem r_v42 (z : Fin 1) (i j : Fin 2048) : fin V main_v42 (ix3 z i j) = ((lr (N.s2 i + N.d2 j) : ℝ) : EReal) := by
  rw [at_v42, at_call3_v1, at_call3_v4, at_call3_v3, at_call3_v2, at_cst_5, at_call3_v0, at_call3_cst]
  pointwise
  rw [r_v41 H]
  exact leaky _

/-- masked to the graph, -/
theorem r_v46 (z : Fin 1) (i j : Fin 2048) :
    fin V main_v46 (ix3 z i j) = if 0 < N.adj i j then ((lr (N.s2 i + N.d2 j) : ℝ) : EReal) else ⊥ := by
  rw [at_v46, at_call4_v0, at_v45, at_v44, at_v43, at_cst_6, at_cst_7, fin_arg V main_arg1 (by decide)]
  pointwise
  rw [r_v42 H, H.adj]
  exact masked _ _

/-- the greatest of each row, -/
theorem r_v47 (z : Fin 1) (i : Fin 2048) (M : EReal)
    (hM : Finset.univ.fold max (⊥ : EReal) (fun k : Fin 2048 => if 0 < N.adj i k then ((lr (N.s2 i + N.d2 k) : ℝ) : EReal) else ⊥) = M) :
    fin V main_v47 (ix2 z i) = M := by
  rw [at_v47, at_cst_8]
  exact max1_of (fin V main_v46) z i _ _ (r_v46 H z i) hM

theorem r_v49 (z : Fin 1) (i : Fin 2048) : ∃ M : ℝ, fin V main_v49 (ix2 z i) = (M : EReal) := by
  obtain ⟨M, hM⟩ := row_max (a := N.adj) H.graph.row (fun j => lr (N.s2 i + N.d2 j)) i
  refine ⟨M, ?_⟩
  rw [at_v49, at_v48, at_cst_9]
  exact (floor1 (fin V main_v47) z i).trans (r_v47 H z i M hM)

/-- the exponentials, -/
theorem r_v53 (z : Fin 1) (i j : Fin 2048) (M : ℝ) (hM : fin V main_v49 (ix2 z i) = (M : EReal)) :
    fin V main_v53 (ix3 z i j) = (((if 0 < N.adj i j then Real.exp (lr (N.s2 i + N.d2 j) - M) else 0) : ℝ) : EReal) := by
  obtain rfl : z = 0 := Subsingleton.elim _ _
  rw [at_v53, at_v52, at_v51, at_v50]
  pointwise
  rw [hM, r_v46 H]
  exact exp_masked _ _ _

/-- and the attention weights. -/
theorem r_v57 (z : Fin 1) (i j : Fin 2048) : fin V main_v57 (ix3 z i j) = ((N.att2 i j : ℝ) : EReal) := by
  obtain rfl : z = 0 := Subsingleton.elim _ _
  obtain ⟨M, hM⟩ := r_v49 H 0 i
  rw [at_v57, at_v56, at_v55, at_v54, at_cst_10]
  pointwise
  simp only [r_v53 H 0 i _ M hM]
  exact row_att H.graph.bit H.graph.row M i j

theorem r_v62 (i j : Fin 2048) : fin V main_v62 (ix2 i j) = ((N.att2 i j : ℝ) : EReal) := by
  rw [at_v62]
  pointwise
  exact r_v57 H _ i j

theorem r_v58 (z : Fin 1) (n : Fin 2048) (c : Fin 256) : fin V main_v58 (ix3 z n c) = ((N.out n c : ℝ) : EReal) := by
  rw [at_v58]
  pointwise
  unfold Net.out
  exact sum_real _ _ fun k => by rw [r_v57 H, r_v34 H, EReal.coe_mul]

/-- The network's result: the one head's, as a mean over the heads. -/
theorem r_v61 (n : Fin 2048) (c : Fin 256) : fin V main_v61 (ix2 n c) = ((N.out n c : ℝ) : EReal) := by
  rw [at_v61, at_v60, at_cst_12, at_v59, at_cst_11]
  pointwise
  exact mean_one _ _ fun z => r_v58 H z n c

end

end Cert.ReferenceIdeal.RVal

end
-- ==== Proof.Pre.lean ====
/- What the precondition says: every argument is an array of reals, the adjacency matrix holds zeros and ones, and each of its
   rows a one. -/
module

public import proofs.«01_k».proof.Defs
public import proofs.«01_k».proof.Proof.Math
public import Idealize.ShloMosaic.Lib.Tactic
public import Idealize.ShloMosaic.Lib.Pointwise
public import Idealize.ShloMosaic.Lib.ReduceAll
public import Idealize.ShloMosaic.Lib.Routing.OpsOrder

@[expose] public section

set_option maxRecDepth 16384

noncomputable section

namespace Cert.Pre_finite_graph

open Cert.Gat
open Idealize.ShloMosaic Idealize.ShloMosaic.TcCoe Idealize.ShloMosaic.Tactic

/-- The precondition's function is well formed. -/
instance preFacts : Cert.Pre_finite_graph.Facts where
  bcast_S_S2048x2048 := by decide
  reducesTo_S2048x2048_S_d0_1 := by decide
  h_S_ := by decide
  reducesTo_S2048x2048_S2048_d1 := by decide
  reducesTo_S2048_S_d0 := by decide
  bcast_S_S2048x512 := by decide
  reducesTo_S2048x512_S_d0_1 := by decide
  bcast_S_S512x2048 := by decide
  reducesTo_S512x2048_S_d0_1 := by decide
  bcast_S_S8x256 := by decide
  reducesTo_S8x256_S_d0_1 := by decide
  bcast_S_S2048x256 := by decide
  reducesTo_S2048x256_S_d0_1 := by decide
  bcast_S_S256 := by decide
  reducesTo_S256_S_d0 := by decide

open Facts

/-- The scalar's shape has one index. -/
instance : Subsingleton S_.Idx := ⟨fun a b => funext fun k => k.elim0⟩

/-- A decided proposition's bit is one where it holds. -/
theorem bit_iff (p : Prop) [Decidable p] : BitVec.ofBool (decide p) = 1#1 ↔ p := by
  by_cases h : p <;> simp [h]

/-- Two bits joined by «and». -/
theorem both {s : Shape} (x y : IVec s 1) (i : s.Idx) (h : andi x y i = 1#1) : x i = 1#1 ∧ y i = 1#1 := IntOp.andi_eq_one.1 h

/-- An entry whose absolute value is less than infinity is a real. -/
theorem real_of {s : Shape} (a : FVec Ideal s .f32) (hb : S_.BroadcastsInDim s ![]) (i : s.Idx)
    (h : cmpf .olt (Host.absf a) (broadcastInDim s ![] hb (constant (F := Ideal) S_ .f32 0x7F800000#32)) i = 1#1) :
    a i = (((a i : EReal).toReal : ℝ) : EReal) := by
  have h1 : max (a i : EReal) (-(a i : EReal)) < Ideal.ofBits .f32 0x7F800000#32 := (bit_iff _).1 h
  rw [ofBits_top, max_lt_iff] at h1
  refine (EReal.coe_toReal h1.1.ne fun e => ?_).symm
  rw [e] at h1
  exact absurd h1.2 (by simp)

/-- An entry that equals zero or one, as the comparison says it. -/
theorem bit_of {s : Shape} (a : FVec Ideal s .f32) (hb : S_.BroadcastsInDim s ![]) (i : s.Idx)
    (h : ori (cmpf .oeq a (broadcastInDim s ![] hb (constant (F := Ideal) S_ .f32 0x00000000#32)))
      (cmpf .oeq a (broadcastInDim s ![] hb (constant (F := Ideal) S_ .f32 0x3F800000#32))) i = 1#1) :
    (a i : EReal) = 0 ∨ (a i : EReal) = 1 := by
  rcases IntOp.ori_eq_one.1 h with h | h
  · exact .inl (((bit_iff _).1 h).trans Ideal.ofBits_zero_f32)
  · exact .inr (((bit_iff _).1 h).trans Ideal.ofBits_one_f32)
theorem one_of {s : Shape} (a : FVec Ideal s .f32) (hb : S_.BroadcastsInDim s ![]) (i : s.Idx)
    (h : cmpf .oeq a (broadcastInDim s ![] hb (constant (F := Ideal) S_ .f32 0x3F800000#32)) i = 1#1) : (a i : EReal) = 1 :=
  ((bit_iff _).1 h).trans Ideal.ofBits_one_f32

/-- A row's «or» that is one has a one. -/
theorem any_of (x : IVec S2048x2048 1) (i : Fin 2048)
    (h : Host.reduce IntOp.ori x (constantI S_ 1 0#1) reducesTo_S2048x2048_S2048_d1 h_S_ (ix1 i) = 1#1) : ∃ k : Fin 2048, x (ix2 i k) = 1#1 := by
  have e : Host.reduce IntOp.ori x (constantI S_ 1 0#1) reducesTo_S2048x2048_S2048_d1 h_S_ (ix1 i)
      = Finset.fold IntOp.ori (0#1) (fun k : Fin 2048 => x (ix2 i k)) Finset.univ := by pointwise
  rw [e] at h
  obtain ⟨k, _, hk⟩ := (Routing.fold_ori _ _).1 h
  exact ⟨k, hk⟩

variable (a0 : FVec Ideal S2048x512 .f32) (a1 : FVec Ideal S2048x2048 .f32) (a2 : FVec Ideal S512x2048 .f32) (a3 a4 : FVec Ideal S8x256 .f32)
  (a5 : FVec Ideal S2048x256 .f32) (a6 a7 : FVec Ideal S256 .f32)

/-- The arguments' reals. -/
def net : Net where
  x i j := (a0 (ix2 i j) : EReal).toReal
  adj i j := (a1 (ix2 i j) : EReal).toReal
  w1 i j := (a2 (ix2 i j) : EReal).toReal
  a1s i j := (a3 (ix2 i j) : EReal).toReal
  a1d i j := (a4 (ix2 i j) : EReal).toReal
  w2 i j := (a5 (ix2 i j) : EReal).toReal
  a2s i := (a6 (ix1 i) : EReal).toReal
  a2d i := (a7 (ix1 i) : EReal).toReal

/-- The arguments are the reals of a network on a graph. -/
structure Holds (N : Net) : Prop where
  graph : N.Graph
  x : ∀ y, a0 y = ((N.x (y 0) (y 1) : ℝ) : EReal)
  adj : ∀ y, a1 y = ((N.adj (y 0) (y 1) : ℝ) : EReal)
  w1 : ∀ y, a2 y = ((N.w1 (y 0) (y 1) : ℝ) : EReal)
  a1s : ∀ y, a3 y = ((N.a1s (y 0) (y 1) : ℝ) : EReal)
  a1d : ∀ y, a4 y = ((N.a1d (y 0) (y 1) : ℝ) : EReal)
  w2 : ∀ y, a5 y = ((N.w2 (y 0) (y 1) : ℝ) : EReal)
  a2s : ∀ y, a6 y = ((N.a2s (y 0) : ℝ) : EReal)
  a2d : ∀ y, a7 y = ((N.a2d (y 0) : ℝ) : EReal)

/-- An array of two axes whose entries are reals, read through its coordinates. -/
theorem coe2 {p q : ℕ} (a : FVec Ideal ⟨2, ![p, q]⟩ .f32) (h : ∀ y, a y = (((a y : EReal).toReal : ℝ) : EReal)) (y : (⟨2, ![p, q]⟩ : Shape).Idx) :
    a y = (((a (ix2 (y 0) (y 1)) : EReal).toReal : ℝ) : EReal) :=
  (h y).trans (congrArg (fun z => (((a z : EReal).toReal : ℝ) : EReal)) (eq_ix2 y))
theorem coe1 {p : ℕ} (a : FVec Ideal ⟨1, ![p]⟩ .f32) (h : ∀ y, a y = (((a y : EReal).toReal : ℝ) : EReal)) (y : (⟨1, ![p]⟩ : Shape).Idx) :
    a y = (((a (ix1 (y 0)) : EReal).toReal : ℝ) : EReal) :=
  (h y).trans (congrArg (fun z => (((a z : EReal).toReal : ℝ) : EReal)) (eq_ix1 y))

/-- THE PRECONDITION, READ. -/
theorem holds (h : fn (F := Ideal) a0 a1 a2 a3 a4 a5 a6 a7 = fun _ => 1#1) : Holds a0 a1 a2 a3 a4 a5 a6 a7 (net a0 a1 a2 a3 a4 a5 a6 a7) := by
  have h := congrFun h ix0
  unfold fn fn_part1 fn_part2 at h
  dsimp only at h
  obtain ⟨h, h7⟩ := both _ _ _ h
  obtain ⟨h, h6⟩ := both _ _ _ h
  obtain ⟨h, h5⟩ := both _ _ _ h
  obtain ⟨h, h4⟩ := both _ _ _ h
  obtain ⟨h, h3⟩ := both _ _ _ h
  obtain ⟨h, h2⟩ := both _ _ _ h
  obtain ⟨h, h0⟩ := both _ _ _ h
  obtain ⟨hb, hr⟩ := both _ _ _ h
  have bits : ∀ y, (a1 y : EReal) = 0 ∨ (a1 y : EReal) = 1 := fun y => bit_of a1 _ y (Host.reduce_andi_all _ _ _ _ _ hb y)
  have rows : ∀ i : Fin 2048, ∃ k : Fin 2048, (a1 (ix2 i k) : EReal) = 1 := fun i => by
    obtain ⟨k, hk⟩ := any_of _ i (Host.reduce_andi_all _ _ _ _ _ hr (ix1 i))
    exact ⟨k, one_of a1 _ _ hk⟩
  exact {
    graph := {
      bit := fun i j => by
        show (a1 (ix2 i j) : EReal).toReal = 0 ∨ (a1 (ix2 i j) : EReal).toReal = 1
        rcases bits (ix2 i j) with e | e <;> rw [e] <;> simp
      row := fun i => by
        obtain ⟨k, hk⟩ := rows i
        refine ⟨k, ?_⟩
        show (a1 (ix2 i k) : EReal).toReal = 1
        rw [hk]; simp }
    x := coe2 a0 fun y => real_of a0 _ y (Host.reduce_andi_all _ _ _ _ _ h0 y)
    adj := coe2 a1 fun y => by rcases bits y with e | e <;> rw [e] <;> simp
    w1 := coe2 a2 fun y => real_of a2 _ y (Host.reduce_andi_all _ _ _ _ _ h2 y)
    a1s := coe2 a3 fun y => real_of a3 _ y (Host.reduce_andi_all _ _ _ _ _ h3 y)
    a1d := coe2 a4 fun y => real_of a4 _ y (Host.reduce_andi_all _ _ _ _ _ h4 y)
    w2 := coe2 a5 fun y => real_of a5 _ y (Host.reduce_andi_all _ _ _ _ _ h5 y)
    a2s := coe1 a6 fun y => real_of a6 _ y (Host.reduce_andi_all _ _ _ _ _ h6 y)
    a2d := coe1 a7 fun y => real_of a7 _ y (Host.reduce_andi_all _ _ _ _ _ h7 y) }

end Cert.Pre_finite_graph

end
-- ==== Proof.Algebraic.lean ====
/- The value claim: on a finite graph the idealized kernel and the reference leave the same three results, each the array of
   reals that the formulas of two layers of graph attention give. -/
module

public import proofs.«01_k».proof.Proof.Arr1
public import proofs.«01_k».proof.Proof.Arr2
public import proofs.«01_k».proof.Proof.RVal
public import proofs.«01_k».proof.Proof.Pre
public import proofs.«01_k».proof.Proof.Frames

@[expose] public section

set_option maxRecDepth 16384

noncomputable section

namespace Cert.Algebraic

open Cert.Gat
open Idealize.ShloMosaic Idealize.ShloMosaic.TcCoe Idealize.ShloMosaic.Tactic Idealize.SL.Sem

section Kernel

open Cert.KernelIdeal Cert.KernelIdeal.Gen Cert.KernelIdeal.Run

variable (m : (ℓ : Loc nD τ sig) → Buf (Elt Ideal) ℓ) (c : Dev nD)

/-- The arguments of a device are the reals of a network. -/
abbrev On (N : Net) : Prop :=
  Pre_finite_graph.Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) N

/-- The network of a device's arguments. -/
def netAt : Net :=
  Pre_finite_graph.net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {m c} {N : Net} (H : On m c N)
include H

/-- The first launch is entered with the arguments. -/
theorem args1 : Val1.Args (entry (W0 m)) c N := ⟨H.x, H.w1, H.a1s, H.a1d⟩

omit H in
/-- A vector as the host spreads it over a row. -/
theorem row_of (a : FVec Ideal S256 .f32) (y : S1x256.Idx) : broadcastInDim S1x256 ![1] bcast_S256_S1x256_1 a y = a (ix1 (y 1)) := by
  obtain ⟨z, k, rfl⟩ : ∃ z k, y = ix2 z k := ⟨_, _, eq_ix2 y⟩
  pointwise

omit H in
/-- The source vector of the second layer, spread over a row. -/
theorem spread1 : W2 m c main_v1 = broadcastInDim S1x256 ![1] bcast_S256_S1x256_1 (W1 m c main_arg6) := by
  unfold W2
  after_reads_simp
omit H in
/-- The target vector of the second layer, spread over a row. -/
theorem spread2 : W2 m c main_v2 = broadcastInDim S1x256 ![1] bcast_S256_S1x256_1 (W1 m c main_arg7) := by
  unfold W2
  after_reads_simp

/-- The second launch is entered with the arguments and what the first left. -/
theorem args2 : Val2.Args (entry (W2 m)) c N where
  graph := H.graph
  adj := fun y => (congrFun (W2_arg1 m c) y).trans (H.adj y)
  wh := fun y => (congrFun ((W2_of m c main_v0_0 (by decide)).trans ((W1_arr m c 4).trans (Val1.features (args1 H)))) y)
  sd := fun y => (congrFun ((W2_of m c main_v0_1 (by decide)).trans ((W1_arr m c 5).trans (Val1.scores (args1 H)))) y)
  w2 := fun y => (congrFun (W2_arg5 m c) y).trans (H.w2 y)
  a2s := fun y => (congrFun (spread1 (m := m) (c := c)) y).trans ((row_of _ y).trans
    ((congrFun (W1_of m c main_arg6 (by decide)) _).trans (H.a2s _)))
  a2d := fun y => (congrFun (spread2 (m := m) (c := c)) y).trans ((row_of _ y).trans
    ((congrFun (W1_of m c main_arg7 (by decide)) _).trans (H.a2d _)))

end Kernel

section Reference

open Cert.ReferenceIdeal Cert.ReferenceIdeal.Run Cert.ReferenceIdeal.RVal

variable {V : Valuation τ sig (Elt Ideal)} {N : Net} (H : RVal.Args V N)
include H

/-- The reference's three results are the kernel's arrays. -/
theorem ref1 : fin V main_v25 = Cert.KernelIdeal.Val2.A6 N :=
  funext fun y => (congrArg (fin V main_v25) (eq_ix3 y)).trans (r_v25 H (y 0) (y 1) (y 2))
theorem ref2 : fin V main_v62 = Cert.KernelIdeal.Val2.A7 N :=
  funext fun y => (congrArg (fin V main_v62) (eq_ix2 y)).trans (r_v62 H (y 0) (y 1))
theorem ref3 : fin V main_v61 = Cert.KernelIdeal.Val2.A8 N :=
  funext fun y => (congrArg (fin V main_v61) (eq_ix2 y)).trans (r_v61 H (y 0) (y 1))

end Reference

/-- THE VALUE CLAIM. -/
theorem algebraic : Cert.algebraic_KernelIdeal_ReferenceIdeal_pre_finite_graph := by
  intro m g m' g' hpre hm
  have H : ∀ c, On m c (netAt m c) := fun c => Pre_finite_graph.holds _ _ _ _ _ _ _ _ (hpre c)
  have H' : ∀ c : Dev Cert.ReferenceIdeal.nD, Cert.ReferenceIdeal.RVal.Args (StableHlo.launchContents m' c) (netAt m c) := fun c => {
    graph := (H c).graph
    x := fun y => (congrFun (hm c).1 y).trans ((H c).x y)
    adj := fun y => (congrFun (hm c).2.1 y).trans ((H c).adj y)
    w1 := fun y => (congrFun (hm c).2.2.1 y).trans ((H c).w1 y)
    a1s := fun y => (congrFun (hm c).2.2.2.1 y).trans ((H c).a1s y)
    a1d := fun y => (congrFun (hm c).2.2.2.2.1 y).trans ((H c).a1d y)
    w2 := fun y => (congrFun (hm c).2.2.2.2.2.1 y).trans ((H c).w2 y)
    a2s := fun y => (congrFun (hm c).2.2.2.2.2.2.1 y).trans ((H c).a2s y)
    a2d := fun y => (congrFun (hm c).2.2.2.2.2.2.2 y).trans ((H c).a2d y) }
  refine ⟨fun c => Cert.KernelIdeal.Val2.A8 (netAt m c), fun c => Cert.KernelIdeal.Val2.A6 (netAt m c), fun c => Cert.KernelIdeal.Val2.A7 (netAt m c), ?_, ?_⟩
  · exact θ_run_mono (Cert.KernelIdeal.Run.values (F := Ideal) m g) fun r h c =>
      ⟨(h.1 c).1.2.2.trans (Cert.KernelIdeal.Val2.result2 (args2 (H c))), (h.1 c).1.1.trans (Cert.KernelIdeal.Val2.weights1 (args2 (H c))),
        (h.1 c).1.2.1.trans (Cert.KernelIdeal.Val2.weights2 (args2 (H c))), (h.1 c).2⟩
  · exact θ_run_mono (Cert.ReferenceIdeal.Run.run (F := Ideal) m' g') fun r h c =>
      ⟨(h c _).trans (ref3 (H' c)), (h c _).trans (ref1 (H' c)), (h c _).trans (ref2 (H' c)),
        (h c _).trans (Cert.ReferenceIdeal.Run.fin_arg _ _ (by decide)), (h c _).trans (Cert.ReferenceIdeal.Run.fin_arg _ _ (by decide)),
        (h c _).trans (Cert.ReferenceIdeal.Run.fin_arg _ _ (by decide)), (h c _).trans (Cert.ReferenceIdeal.Run.fin_arg _ _ (by decide)),
        (h c _).trans (Cert.ReferenceIdeal.Run.fin_arg _ _ (by decide)), (h c _).trans (Cert.ReferenceIdeal.Run.fin_arg _ _ (by decide)),
        (h c _).trans (Cert.ReferenceIdeal.Run.fin_arg _ _ (by decide)), (h c _).trans (Cert.ReferenceIdeal.Run.fin_arg _ _ (by decide))⟩

end Cert.Algebraic

end
-- ==== Proof.lean ====
module

public import proofs.«01_k».proof.Defs
public import proofs.«01_k».proof.Proof.Frames
public import proofs.«01_k».proof.Proof.Algebraic

@[expose] public section

noncomputable section

namespace Cert.Proof

/-- The certificate's claim. -/
theorem claim : Cert.Claim := ⟨Cert.Kernel.Gen.facts, Cert.KernelIdeal.Gen.facts, Cert.ReferenceIdeal.Gen.facts,
  Cert.Pre_finite_graph.preFacts, Cert.Frames.frame_p, Cert.Frames.frame_pi, fun m g _ => Cert.Frames.frame_pi m g trivial,
  Cert.Frames.frame_ri, fun m g _ => Cert.Frames.frame_ri m g trivial, Cert.Frames.preserves, Cert.Algebraic.algebraic⟩

end Cert.Proof

end
